-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v28_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_v20) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_queries_and_keys_finite : Cert.Pre_queries_and_keys_finite.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_queries_and_keys_finite.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S256 : Shape := ⟨1, ![256]⟩
abbrev S256x256 : Shape := ⟨2, ![256, 256]⟩
abbrev S1024x1024 : Shape := ⟨2, ![1024, 1024]⟩
abbrev S1024 : Shape := ⟨1, ![1024]⟩
abbrev S8x256x1024 : Shape := ⟨3, ![8, 256, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S1024 : S_.BroadcastsInDim S1024 (![] : Fin 0 → Fin S1024.rank)
  bcast_S_S1024x1024 : S_.BroadcastsInDim S1024x1024 (![] : Fin 0 → Fin S1024x1024.rank)
  bcast_S_S8x256x1024 : S_.BroadcastsInDim S8x256x1024 (![] : Fin 0 → Fin S8x256x1024.rank)

variable [Facts]

def fn {F : FTy → Type} [FloatOps F] (main_arg0 : FVec F S8x4096x1024 .f32) (main_arg1 : FVec F S8x4096x256 .f32) (main_arg2 : FVec F S8x4096x512 .f32) (main_arg3 : FVec F S8x4096x256 .f32) (main_arg4 : FVec F S8x4096x256 .f32) (main_arg5 : FVec F S256 .f32) (main_arg6 : FVec F S256x256 .f32) (main_arg7 : FVec F S256 .f32) (main_arg8 : FVec F S1024x1024 .f32) (main_arg9 : FVec F S1024 .f32) (main_arg10 : FVec F S8x256x1024 .f32) (main_arg11 : FVec F S8x256x1024 .f32) (main_arg12 : FVec F S1024x1024 .f32) (main_arg13 : FVec F S1024x1024 .f32) (main_arg14 : FVec F S1024 .f32) (main_arg15 : FVec F S1024x4 .f32) (main_arg16 : FVec F S4 .f32) (main_arg17 : FVec F S1024x32 .f32) (main_arg18 : FVec F S32 .f32) : IVec S1024 1 × IVec S1024x1024 1 × IVec S8x256x1024 1 :=
  let main_v0 : FVec F S1024 .f32 := Host.absf main_arg9
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1024 .f32 := Host.absf main_arg12
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8x256x1024 .f32 := Host.absf main_arg10
  let main_cst_1 : FVec F S_ .f32 := constant S_ .f32 0x7F800000#32
  let main_v7 : FVec F S8x256x1024 .f32 := broadcastInDim S8x256x1024 ![] bcast_S_S8x256x1024 main_cst_1
  let main_v8 : IVec S8x256x1024 1 := cmpf .olt main_v6 main_v7
  (main_v2, main_v5, main_v8)
-- ==== Kernel.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S256 : Shape := ⟨1, ![256]⟩
abbrev S256x256 : Shape := ⟨2, ![256, 256]⟩
abbrev S1024x1024 : Shape := ⟨2, ![1024, 1024]⟩
abbrev S1024 : Shape := ⟨1, ![1024]⟩
abbrev S8x256x1024 : Shape := ⟨3, ![8, 256, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S2048x1024 : Shape := ⟨2, ![2048, 1024]⟩
abbrev S2048x2048 : Shape := ⟨2, ![2048, 2048]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S32768x1024 : Shape := ⟨2, ![32768, 1024]⟩
abbrev S32768x256 : Shape := ⟨2, ![32768, 256]⟩
abbrev S32768x512 : Shape := ⟨2, ![32768, 512]⟩
abbrev S1x256 : Shape := ⟨2, ![1, 256]⟩
abbrev S1x1024 : Shape := ⟨2, ![1, 1024]⟩
abbrev S262144x128 : Shape := ⟨2, ![262144, 128]⟩
abbrev S32768x128 : Shape := ⟨2, ![32768, 128]⟩
abbrev S8x32768 : Shape := ⟨2, ![8, 32768]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S4096x128 : Shape := ⟨2, ![4096, 128]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S128x512 : Shape := ⟨2, ![128, 512]⟩

abbrev nBuf : Space → Nat
  | .hbm => 53
  | .vmem => 33
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x512, .f32⟩
  | .hbm, ⟨3, _⟩ => ⟨S8x4096x256, .f32⟩
  | .hbm, ⟨4, _⟩ => ⟨S8x4096x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1024x1024, .f32⟩
  | .hbm, ⟨9, _⟩ => ⟨S1024, .f32⟩
  | .hbm, ⟨10, _⟩ => ⟨S8x256x1024, .f32⟩
  | .hbm, ⟨11, _⟩ => ⟨S8x256x1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4, .f32⟩
  | .hbm, ⟨16, _⟩ => ⟨S4, .f32⟩
  | .hbm, ⟨17, _⟩ => ⟨S1024x32, .f32⟩
  | .hbm, ⟨18, _⟩ => ⟨S32, .f32⟩
  | .hbm, ⟨19, _⟩ => ⟨S2048x1024, .f32⟩
  | .hbm, ⟨20, _⟩ => ⟨S2048x1024, .f32⟩
  | .hbm, ⟨21, _⟩ => ⟨S2048x2048, .f32⟩
  | .hbm, ⟨22, _⟩ => ⟨S2048x2048, .bf16⟩
  | .hbm, ⟨23, _⟩ => ⟨S_, .f32⟩
  | .hbm, ⟨24, _⟩ => ⟨S1024x92, .f32⟩
  | .hbm, ⟨25, _⟩ => ⟨S1024x128, .f32⟩
  | .hbm, ⟨26, _⟩ => ⟨S_, .f32⟩
  | .hbm, ⟨27, _⟩ => ⟨S92, .f32⟩
  | .hbm, ⟨28, _⟩ => ⟨S128, .f32⟩
  | .hbm, ⟨29, _⟩ => ⟨S1x128, .f32⟩
  | .hbm, ⟨30, _⟩ => ⟨S32768x1024, .f32⟩
  | .hbm, ⟨31, _⟩ => ⟨S32768x256, .f32⟩
  | .hbm, ⟨32, _⟩ => ⟨S32768x256, .bf16⟩
  | .hbm, ⟨33, _⟩ => ⟨S32768x512, .f32⟩
  | .hbm, ⟨34, _⟩ => ⟨S32768x512, .bf16⟩
  | .hbm, ⟨35, _⟩ => ⟨S32768x256, .f32⟩
  | .hbm, ⟨36, _⟩ => ⟨S32768x256, .f32⟩
  | .hbm, ⟨37, _⟩ => ⟨S1x256, .f32⟩
  | .hbm, ⟨38, _⟩ => ⟨S256x256, .bf16⟩
  | .hbm, ⟨39, _⟩ => ⟨S1x256, .f32⟩
  | .hbm, ⟨40, _⟩ => ⟨S1024x1024, .bf16⟩
  | .hbm, ⟨41, _⟩ => ⟨S1x1024, .f32⟩
  | .hbm, ⟨42, _⟩ => ⟨S1024x1024, .bf16⟩
  | .hbm, ⟨43, _⟩ => ⟨S1024x1024, .bf16⟩
  | .hbm, ⟨44, _⟩ => ⟨S1x1024, .f32⟩
  | .hbm, ⟨45, _⟩ => ⟨S1024x128, .bf16⟩
  | .hbm, ⟨46, _⟩ => ⟨S1024x128, .f32⟩
  | .hbm, ⟨47, _⟩ => ⟨S1024x128, .f32⟩
  | .hbm, ⟨48, _⟩ => ⟨S1024x128, .bf16⟩
  | .hbm, ⟨49, _⟩ => ⟨S262144x128, .f32⟩
  | .hbm, ⟨50, _⟩ => ⟨S32768x128, .f32⟩
  | .hbm, ⟨51, _⟩ => ⟨S8x32768, .f32⟩
  | .hbm, ⟨52, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x128, .bf16⟩
  | .local _ .vmem, ⟨23, _⟩ => ⟨S1024x128, .bf16⟩
  | .local _ .vmem, ⟨24, _⟩ => ⟨S1x128, .f32⟩
  | .local _ .vmem, ⟨25, _⟩ => ⟨S4096x128, .f32⟩
  | .local _ .vmem, ⟨26, _⟩ => ⟨S4096x128, .f32⟩
  | .local _ .vmem, ⟨27, _⟩ => ⟨S512x128, .f32⟩
  | .local _ .vmem, ⟨28, _⟩ => ⟨S512x128, .f32⟩
  | .local _ .vmem, ⟨29, _⟩ => ⟨S8x512, .f32⟩
  | .local _ .vmem, ⟨30, _⟩ => ⟨S8x512, .f32⟩
  | .local _ .vmem, ⟨31, _⟩ => ⟨S1x128, .f32⟩
  | .local _ .vmem, ⟨32, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev main_v28_2 : Ref sig .tc := ⟨.hbm, 51, rfl⟩
abbrev main_v28_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_12 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S4096x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S256 : Shape := ⟨1, ![256]⟩
abbrev S256x256 : Shape := ⟨2, ![256, 256]⟩
abbrev S1024x1024 : Shape := ⟨2, ![1024, 1024]⟩
abbrev S1024 : Shape := ⟨1, ![1024]⟩
abbrev S8x256x1024 : Shape := ⟨3, ![8, 256, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1x1x256 : Shape := ⟨3, ![1, 1, 256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S262144x128 : Shape := ⟨2, ![262144, 128]⟩

abbrev nBuf : Space → Nat
  | .hbm => 100
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x512, .f32⟩
  | .hbm, ⟨3, _⟩ => ⟨S8x4096x256, .f32⟩
  | .hbm, ⟨4, _⟩ => ⟨S8x4096x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1024x1024, .f32⟩
  | .hbm, ⟨9, _⟩ => ⟨S1024, .f32⟩
  | .hbm, ⟨10, _⟩ => ⟨S8x256x1024, .f32⟩
  | .hbm, ⟨11, _⟩ => ⟨S8x256x1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4, .f32⟩
  | .hbm, ⟨16, _⟩ => ⟨S4, .f32⟩
  | .hbm, ⟨17, _⟩ => ⟨S1024x32, .f32⟩
  | .hbm, ⟨18, _⟩ => ⟨S32, .f32⟩
  | .hbm, ⟨19, _⟩ => ⟨S1x1x256, .f32⟩
  | .hbm, ⟨20, _⟩ => ⟨S8x4096x256, .f32⟩
  | .hbm, ⟨21, _⟩ => ⟨S8x4096x256, .f32⟩
  | .hbm, ⟨22, _⟩ => ⟨S8x4096x256, .f32⟩
  | .hbm, ⟨23, _⟩ => ⟨S8x4096x256, .f32⟩
  | .hbm, ⟨24, _⟩ => ⟨S8x4096x256, .f32⟩
  | .hbm, ⟨25, _⟩ => ⟨S_, .f32⟩
  | .hbm, ⟨26, _⟩ => ⟨S8x4096x256, .f32⟩
  | .hbm, ⟨27, _⟩ => ⟨S8x4096x256, .f32⟩
  | .hbm, ⟨28, _⟩ => ⟨S8x4096x256, .f32⟩
  | .hbm, ⟨29, _⟩ => ⟨S_, .f32⟩
  | .hbm, ⟨30, _⟩ => ⟨S8x4096x256, .f32⟩
  | .hbm, ⟨31, _⟩ => ⟨S8x4096x256, .f32⟩
  | .hbm, ⟨32, _⟩ => ⟨S8x4096x256, .f32⟩
  | .hbm, ⟨33, _⟩ => ⟨S_, .f32⟩
  | .hbm, ⟨34, _⟩ => ⟨S8x4096x256, .f32⟩
  | .hbm, ⟨35, _⟩ => ⟨S8x4096x256, .f32⟩
  | .hbm, ⟨36, _⟩ => ⟨S_, .f32⟩
  | .hbm, ⟨37, _⟩ => ⟨S8x4096x256, .f32⟩
  | .hbm, ⟨38, _⟩ => ⟨S8x4096x256, .f32⟩
  | .hbm, ⟨39, _⟩ => ⟨S8x4096x256, .f32⟩
  | .hbm, ⟨40, _⟩ => ⟨S8x4096x256, .f32⟩
  | .hbm, ⟨41, _⟩ => ⟨S1x1x256, .f32⟩
  | .hbm, ⟨42, _⟩ => ⟨S8x4096x256, .f32⟩
  | .hbm, ⟨43, _⟩ => ⟨S8x4096x256, .f32⟩
  | .hbm, ⟨44, _⟩ => ⟨S8x4096x256, .f32⟩
  | .hbm, ⟨45, _⟩ => ⟨S8x4096x256, .f32⟩
  | .hbm, ⟨46, _⟩ => ⟨S_, .f32⟩
  | .hbm, ⟨47, _⟩ => ⟨S8x4096x256, .f32⟩
  | .hbm, ⟨48, _⟩ => ⟨S8x4096x256, .f32⟩
  | .hbm, ⟨49, _⟩ => ⟨S_, .f32⟩
  | .hbm, ⟨50, _⟩ => ⟨S8x4096x256, .f32⟩
  | .hbm, ⟨51, _⟩ => ⟨S8x4096x256, .f32⟩
  | .hbm, ⟨52, _⟩ => ⟨S8x4096x256, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x1, .f32⟩
  | .hbm, ⟨67, _⟩ => ⟨S8x4096x1024, .f32⟩
  | .hbm, ⟨68, _⟩ => ⟨S8x4096x1024, .f32⟩
  | .hbm, ⟨69, _⟩ => ⟨S1x1x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x4x256, .f32⟩
  | .hbm, ⟨74, _⟩ => ⟨S8x256x4x256, .f32⟩
  | .hbm, ⟨75, _⟩ => ⟨S8x256x4x256, .f32⟩
  | .hbm, ⟨76, _⟩ => ⟨S8x4x4096x256, .f32⟩
  | .hbm, ⟨77, _⟩ => ⟨S_, .f32⟩
  | .hbm, ⟨78, _⟩ => ⟨S8x4x4096x256, .f32⟩
  | .hbm, ⟨79, _⟩ => ⟨S8x4x4096x256, .f32⟩
  | .hbm, ⟨80, _⟩ => ⟨S_, .f32⟩
  | .hbm, ⟨81, _⟩ => ⟨S8x4x4096, .f32⟩
  | .hbm, ⟨82, _⟩ => ⟨S_, .f32⟩
  | .hbm, ⟨83, _⟩ => ⟨S8x4x4096, .f32⟩
  | .hbm, ⟨84, _⟩ => ⟨S8x4x4096, .f32⟩
  | .hbm, ⟨85, _⟩ => ⟨S8x4x4096x1, .f32⟩
  | .hbm, ⟨86, _⟩ => ⟨S8x4x4096x256, .f32⟩
  | .hbm, ⟨87, _⟩ => ⟨S8x4x4096x256, .f32⟩
  | .hbm, ⟨88, _⟩ => ⟨S8x4x4096x256, .f32⟩
  | .hbm, ⟨89, _⟩ => ⟨S_, .f32⟩
  | .hbm, ⟨90, _⟩ => ⟨S8x4x4096, .f32⟩
  | .hbm, ⟨91, _⟩ => ⟨S8x4x4096x1, .f32⟩
  | .hbm, ⟨92, _⟩ => ⟨S8x4x4096x256, .f32⟩
  | .hbm, ⟨93, _⟩ => ⟨S8x4x4096x256, .f32⟩
  | .hbm, ⟨94, _⟩ => ⟨S8x4x256x4096, .f32⟩
  | .hbm, ⟨95, _⟩ => ⟨S8x4096x4x256, .f32⟩
  | .hbm, ⟨96, _⟩ => ⟨S8x4096x1024, .f32⟩
  | .hbm, ⟨97, _⟩ => ⟨S8x4096x1024, .f32⟩
  | .hbm, ⟨98, _⟩ => ⟨S8x4096x1024, .f32⟩
  | .hbm, ⟨99, _⟩ => ⟨S262144x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x2824 : Shape := ⟨2, ![1024, 2824]⟩
abbrev S1024x2560 : Shape := ⟨2, ![1024, 2560]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x2944 : Shape := ⟨2, ![1024, 2944]⟩
abbrev S32768x1024 : Shape := ⟨2, ![32768, 1024]⟩
abbrev S1x1024 : Shape := ⟨2, ![1, 1024]⟩
abbrev S32768x512 : Shape := ⟨2, ![32768, 512]⟩
abbrev S32768x256 : Shape := ⟨2, ![32768, 256]⟩
abbrev S32768x128 : Shape := ⟨2, ![32768, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2824, .f32⟩
  | .hbm, ⟨3, _⟩ => ⟨S1024x2560, .f32⟩
  | .hbm, ⟨4, _⟩ => ⟨S1024x256, .f32⟩
  | .hbm, ⟨5, _⟩ => ⟨S1024x8, .f32⟩
  | .hbm, ⟨6, _⟩ => ⟨S_, .f32⟩
  | .hbm, ⟨7, _⟩ => ⟨S1024x120, .f32⟩
  | .hbm, ⟨8, _⟩ => ⟨S1024x2944, .f32⟩
  | .hbm, ⟨9, _⟩ => ⟨S1024x2944, .bf16⟩
  | .hbm, ⟨10, _⟩ => ⟨S32768x1024, .f32⟩
  | .hbm, ⟨11, _⟩ => ⟨S1x1024, .f32⟩
  | .hbm, ⟨12, _⟩ => ⟨S32768x1024, .bf16⟩
  | .hbm, ⟨13, _⟩ => ⟨S32768x512, .bf16⟩
  | .hbm, ⟨14, _⟩ => ⟨S32768x1024, .bf16⟩
  | .hbm, ⟨15, _⟩ => ⟨S32768x256, .f32⟩
  | .hbm, ⟨16, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x256, .f32⟩
  | .local _ .vmem, ⟨11, _⟩ => ⟨S512x256, .f32⟩
  | .local _ .vmem, ⟨12, _⟩ => ⟨S512x128, .f32⟩
  | .local _ .vmem, ⟨13, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v8_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x4096x1024 : Shape := ⟨3, ![8, 4096, 1024]⟩
abbrev S1024 : Shape := ⟨1, ![1024]⟩
abbrev S1024x2824 : Shape := ⟨2, ![1024, 2824]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2824 : Shape := ⟨3, ![8, 4096, 2824]⟩
abbrev S32768x2824 : Shape := ⟨2, ![32768, 2824]⟩
abbrev S32768x1024 : Shape := ⟨2, ![32768, 1024]⟩
abbrev S32768x512 : Shape := ⟨2, ![32768, 512]⟩
abbrev S32768x8 : Shape := ⟨2, ![32768, 8]⟩
abbrev S32768x256 : Shape := ⟨2, ![32768, 256]⟩
abbrev S32768x128 : Shape := ⟨2, ![32768, 128]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2824, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x2824, .f32⟩
  | .hbm, ⟨20, _⟩ => ⟨S32768x2824, .f32⟩
  | .hbm, ⟨21, _⟩ => ⟨S32768x1024, .f32⟩
  | .hbm, ⟨22, _⟩ => ⟨S32768x512, .f32⟩
  | .hbm, ⟨23, _⟩ => ⟨S32768x1024, .f32⟩
  | .hbm, ⟨24, _⟩ => ⟨S32768x8, .f32⟩
  | .hbm, ⟨25, _⟩ => ⟨S32768x256, .f32⟩
  | .hbm, ⟨26, _⟩ => ⟨S_, .i32⟩
  | .hbm, ⟨27, _⟩ => ⟨S_, .f32⟩
  | .hbm, ⟨28, _⟩ => ⟨S32768x128, .f32⟩
  | .hbm, ⟨29, _⟩ => ⟨S32768x1024, .bf16⟩
  | .hbm, ⟨30, _⟩ => ⟨S32768x512, .bf16⟩
  | .hbm, ⟨31, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel3.lean ====
abbrev S8x256x1024 : Shape := ⟨3, ![8, 256, 1024]⟩
abbrev S1024 : Shape := ⟨1, ![1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1024x4096 : Shape := ⟨2, ![1024, 4096]⟩
abbrev S2048x1024 : Shape := ⟨2, ![2048, 1024]⟩
abbrev S1x1024 : Shape := ⟨2, ![1, 1024]⟩
abbrev S2048x4096 : Shape := ⟨2, ![2048, 4096]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S2x1024x1024, .f32⟩
  | .hbm, ⟨3, _⟩ => ⟨S2x1024x1024, .f32⟩
  | .hbm, ⟨4, _⟩ => ⟨S1x1024x1024, .f32⟩
  | .hbm, ⟨5, _⟩ => ⟨S1024x1024, .f32⟩
  | .hbm, ⟨6, _⟩ => ⟨S1x1024x1024, .f32⟩
  | .hbm, ⟨7, _⟩ => ⟨S1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1024x4096, .f32⟩
  | .hbm, ⟨13, _⟩ => ⟨S1024x4096, .bf16⟩
  | .hbm, ⟨14, _⟩ => ⟨S2048x1024, .f32⟩
  | .hbm, ⟨15, _⟩ => ⟨S1x1024, .f32⟩
  | .hbm, ⟨16, _⟩ => ⟨S2048x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x256x1024 : Shape := ⟨3, ![8, 256, 1024]⟩
abbrev S1024 : Shape := ⟨1, ![1024]⟩
abbrev S2x1024x1024 : Shape := ⟨3, ![2, 1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S2048x1024 : Shape := ⟨2, ![2048, 1024]⟩
abbrev S1x1024x1024 : Shape := ⟨3, ![1, 1024, 1024]⟩
abbrev S1024x1024 : Shape := ⟨2, ![1024, 1024]⟩
abbrev S2048x4096 : Shape := ⟨2, ![2048, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S2x1024x1024, .f32⟩
  | .hbm, ⟨3, _⟩ => ⟨S2x1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S2048x1024, .f32⟩
  | .hbm, ⟨21, _⟩ => ⟨S1x1024x1024, .f32⟩
  | .hbm, ⟨22, _⟩ => ⟨S1024x1024, .f32⟩
  | .hbm, ⟨23, _⟩ => ⟨S2048x1024, .f32⟩
  | .hbm, ⟨24, _⟩ => ⟨S1x1024x1024, .f32⟩
  | .hbm, ⟨25, _⟩ => ⟨S1024x1024, .f32⟩
  | .hbm, ⟨26, _⟩ => ⟨S2048x1024, .f32⟩
  | .hbm, ⟨27, _⟩ => ⟨S1x1024x1024, .f32⟩
  | .hbm, ⟨28, _⟩ => ⟨S1024x1024, .f32⟩
  | .hbm, ⟨29, _⟩ => ⟨S2048x1024, .f32⟩
  | .hbm, ⟨30, _⟩ => ⟨S1x1024x1024, .f32⟩
  | .hbm, ⟨31, _⟩ => ⟨S1024x1024, .f32⟩
  | .hbm, ⟨32, _⟩ => ⟨S2048x1024, .f32⟩
  | .hbm, ⟨33, _⟩ => ⟨S2048x4096, .f32⟩
  | .hbm, ⟨34, _⟩ => ⟨S2048x4096, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Math.lean ====
module

public import Idealize.ShloMosaic.Lib.Pointwise

/-! # The mathematics of one token

One token's way through the end of the mixer and the cross attention, over the extended reals and with no shapes: its
residual stream is a function of 1024 lanes, its branches' outputs of 256, 512 and 256, and the memory's keys and
values of 256 positions times 1024 lanes. -/

@[expose] public section

noncomputable section

namespace Cert.Math

open Idealize.ShloMosaic

/-- The smooth gate `gelu` in its hyperbolic-tangent form. -/
def gelu (y : EReal) : EReal :=
  y * (Ideal.ofBits .f32 0x3F000000#32 * (1 + Ideal.tanh (Ideal.ofBits .f32 0x3F4C422A#32 *
    (y + Ideal.ofBits .f32 0x3D372713#32 * (y * (y * y))))))

/-- The gated output of the state-space branch, lane `k`: `g` times the logistic function of `g` through a matrix. -/
def gated (g : Fin 256 → EReal) (w : Fin 256 → Fin 256 → EReal) (b : Fin 256 → EReal) (k : Fin 256) : EReal :=
  g k * Ideal.logistic ((∑ j, g j * w j k) + b k)

/-- The residual stream after the output projection: each branch goes through its rows of the projection matrix. -/
def mixed (h : Fin 1024 → EReal) (r : Fin 256 → EReal) (n : Fin 512 → EReal) (s : Fin 256 → EReal)
    (w : Fin 1024 → Fin 1024 → EReal) (c : Fin 1024) : EReal :=
  h c + ((∑ k : Fin 256, r k * w ⟨k.val, by omega⟩ c) + (∑ k : Fin 512, n k * w ⟨256 + k.val, by omega⟩ c)
    + ∑ k : Fin 256, s k * w ⟨768 + k.val, by omega⟩ c)

/-- Root-mean-square normalisation with a gain. -/
def normed (x : Fin 1024 → EReal) (g : Fin 1024 → EReal) (c : Fin 1024) : EReal :=
  x c * Ideal.rsqrt (Ideal.div (∑ k, x k * x k) (Ideal.ofBits .f32 0x44800000#32) + Ideal.ofBits .f32 0x358637BD#32) * g c

/-- A row through a square matrix. -/
def proj (x : Fin 1024 → EReal) (w : Fin 1024 → Fin 1024 → EReal) (c : Fin 1024) : EReal := ∑ k, x k * w k c

/-- The scaled score of a query against memory position `p`, over the 256 lanes of head `i`. -/
def score (q : Fin 1024 → EReal) (K : Fin 256 → Fin 1024 → EReal) (i : Fin 4) (p : Fin 256) : EReal :=
  (∑ d : Fin 256, q ⟨256 * i.val + d.val, by omega⟩ * K p ⟨256 * i.val + d.val, by omega⟩) * Ideal.ofBits .f32 0x3D800000#32

/-- The largest of a row of scores. -/
def top (s : Fin 256 → EReal) : EReal := Finset.univ.fold max (Ideal.ofBits .f32 0xFF800000#32) s

/-- The weighted mean of the values with the weights divided out at the end. -/
def meanLate (s v : Fin 256 → EReal) : EReal :=
  Ideal.div (∑ p, Ideal.exp (s p - top s) * v p) (∑ p, Ideal.exp (s p - top s))

/-- The weighted mean of the values with every weight divided first. -/
def meanEarly (s v : Fin 256 → EReal) : EReal :=
  ∑ p, Ideal.div (Ideal.exp (s p - top s)) (∑ p, Ideal.exp (s p - top s)) * v p

/-- The new residual stream, lane `c`, from the mixed stream, the attended values and the output matrix. -/
def added (x : Fin 1024 → EReal) (o : Fin 1024 → EReal) (w : Fin 1024 → Fin 1024 → EReal) (c : Fin 1024) : EReal :=
  x c + ∑ e, o e * w e c

/-- The head that lane `e` belongs to. -/
def head (e : Fin 1024) : Fin 4 := ⟨e.val / 256, by omega⟩

/-- The token's residual stream after the output projection, from the token's rows and the weights. -/
def stream (h : Fin 1024 → EReal) (r : Fin 256 → EReal) (n : Fin 512 → EReal) (y u D : Fin 256 → EReal)
    (wg : Fin 256 → Fin 256 → EReal) (bg : Fin 256 → EReal) (w : Fin 1024 → Fin 1024 → EReal) : Fin 1024 → EReal :=
  mixed h r n (gated (fun k => gelu (y k + D k * u k)) wg bg) w

/-- The attended values of a residual stream, the weights of each head divided out at the end. -/
def attendLate (x g : Fin 1024 → EReal) (wq : Fin 1024 → Fin 1024 → EReal) (K V : Fin 256 → Fin 1024 → EReal)
    (e : Fin 1024) : EReal :=
  meanLate (score (proj (normed x g) wq) K (head e)) (fun p => V p e)

/-- The attended values of a residual stream, every weight divided before it meets its value. -/
def attendEarly (x g : Fin 1024 → EReal) (wq : Fin 1024 → Fin 1024 → EReal) (K V : Fin 256 → Fin 1024 → EReal)
    (e : Fin 1024) : EReal :=
  meanEarly (score (proj (normed x g) wq) K (head e)) (fun p => V p e)

end Cert.Math

end
-- ==== Proof.Memory.lean ====
module

public import proofs.«01_k».proof.Proof.Math
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.StableHlo.Run
public import Idealize.ShloMosaic.Lib.Pointwise
public import Idealize.ShloMosaic.Lib.Claim

/-! # The memory's keys and values

The kernel normalises a tile of 256 memory rows and multiplies it into one 1024-lane stretch of the joined key and value
matrices of the two layers; the reference normalises the memory once and multiplies it into each matrix. -/

@[expose] public section

set_option maxRecDepth 16384

noncomputable section

namespace Cert.Kernel3Ideal.Value

open Cert.Kernel3Ideal Cert.Kernel3Ideal.Gen
open Idealize.ShloMosaic Idealize.ShloMosaic.TcCoe Idealize.SL.Sem
open Idealize.ShloMosaic.Pipeline (Dat)
open Cert.Math

variable (m : (ℓ : Loc nD τ sig) → Buf (Elt Ideal) ℓ)

/-- Column `j` of the four joined matrices: layer 0's keys and values, then layer 1's. -/
def column (wk wv : FVec Ideal S2x1024x1024 .f32) (j : Fin 4096) (k : Fin 1024) : EReal :=
  if h : j.val < 1024 then wk (ix3 0 k ⟨j.val, h⟩)
  else if h : j.val - 1024 < 1024 then wv (ix3 0 k ⟨j.val - 1024, h⟩)
  else if h : j.val - 1024 - 1024 < 1024 then wk (ix3 1 k ⟨j.val - 1024 - 1024, h⟩)
  else wv (ix3 1 k ⟨j.val - 1024 - 1024 - 1024, by omega⟩)

/-- The projected memory: row `r` normalised, through column `j`. -/
def projected (x : FVec Ideal S8x256x1024 .f32) (g : FVec Ideal S1024 .f32) (wk wv : FVec Ideal S2x1024x1024 .f32)
    (r : Fin 2048) (j : Fin 4096) : EReal :=
  ∑ k, normed (fun k => x (ix3 ⟨r.val / 256, by omega⟩ ⟨r.val % 256, by omega⟩ k)) (fun k => g (ix1 k)) k * column wk wv j k

/-- One entry of a tile: a normalised row through one column of the stretch. -/
theorem tile_at (x0 : Vec Ideal S256x1024 .f32) (x1 : Vec Ideal S1x1024 .f32) (x2 : Vec Ideal S1024x1024 .bf16) (r : Fin 256) (c : Fin 1024) :
    k0_pay1 (F := Ideal) x0 x1 x2 (ix2 r c)
      = ∑ k, normed (fun k => x0 (ix2 r k)) (fun k => x1 (ix2 0 k)) k * x2 (ix2 k c) := by
  pointwise [k0_pay1, normed]

/-- Every window's block index. -/
theorem idx_val : ∀ t : Fin cfg0.N, win0_0.index t = ![t.val / 4, 0]
    ∧ win0_1.index t = ![0, 0]
    ∧ win0_2.index t = ![0, t.val % 4]
    ∧ win0_3.index t = ![t.val / 4, t.val % 4] :=
  (by decide +kernel : ∀ t : Fin grid0.N, _)

/-- The joined matrices, as the host builds them. -/
theorem joined_eq (c : Dev nD) : (show FVec Ideal S1024x4096 .bf16 from V m c main_v9)
    = truncf .bf16 (concatenate S1024x4096 1
        [⟨S1024x1024, (shapeCast S1024x1024 (extractStridedSlice S1x1024x1024 ![0, 0, 0] (m ((c : Thread nD τ).loc main_arg2)) slices_S2x1024x1024_S1x1024x1024_0_0_0) shapeCasts_S1x1024x1024_S1024x1024 : FVec Ideal S1024x1024 .f32)⟩,
         ⟨S1024x1024, (shapeCast S1024x1024 (extractStridedSlice S1x1024x1024 ![0, 0, 0] (m ((c : Thread nD τ).loc main_arg3)) slices_S2x1024x1024_S1x1024x1024_0_0_0) shapeCasts_S1x1024x1024_S1024x1024 : FVec Ideal S1024x1024 .f32)⟩,
         ⟨S1024x1024, (shapeCast S1024x1024 (extractStridedSlice S1x1024x1024 ![1, 0, 0] (m ((c : Thread nD τ).loc main_arg2)) slices_S2x1024x1024_S1x1024x1024_1_0_0) shapeCasts_S1x1024x1024_S1024x1024 : FVec Ideal S1024x1024 .f32)⟩,
         ⟨S1024x1024, (shapeCast S1024x1024 (extractStridedSlice S1x1024x1024 ![1, 0, 0] (m ((c : Thread nD τ).loc main_arg3)) slices_S2x1024x1024_S1x1024x1024_1_0_0) shapeCasts_S1x1024x1024_S1024x1024 : FVec Ideal S1024x1024 .f32)⟩]
        concatenates_S1024x1024_S1024x1024_S1024x1024_S1024x1024_S1024x4096_d1 : FVec Ideal S1024x4096 .f32) bitsLt_bf16_f32 := by
  show V m c main_v9 = _
  unfold V
  after_results_simp <;> (try dsimp only [Matrix.cons_val]) <;> (try after_results_simp) <;> rfl

/-- The joined matrices, entry by entry. -/
theorem joined_at (c : Dev nD) (k : Fin 1024) (j : Fin 4096) :
    (show FVec Ideal S1024x4096 .bf16 from V m c main_v9) (ix2 k j)
      = column (m ((c : Thread nD τ).loc main_arg2)) (m ((c : Thread nD τ).loc main_arg3)) j k := by
  rw [joined_eq]
  pointwise [column]

/-- What the kernel leaves: every tile of the result is the projected memory. -/
def resultOf (c : Dev nD) : FVec Ideal S2048x4096 .bf16 := fun y =>
  projected (m ((c : Thread nD τ).loc main_arg0)) (m ((c : Thread nD τ).loc main_arg1)) (m ((c : Thread nD τ).loc main_arg2))
    (m ((c : Thread nD τ).loc main_arg3)) (y 0) (y 1)

/-- Window 0 holds a tile of 256 memory rows. -/
theorem blk0 (c : Dev nD) (t : Fin cfg0.N) (r : Fin 256) (k : Fin 1024) (b : Fin 8) (hb : b.val = t.val / 4) :
    (show FVec Ideal S256x1024 .f32 from iblk m c 0 t) (ix2 r k) = m ((c : Thread nD τ).loc main_arg0) (ix3 b r k) := by
  blk_simp [iblk]
  entry_read
  pointwise
  blk_ext [idx_val t]

/-- Window 1 holds the gain. -/
theorem blk1 (c : Dev nD) (t : Fin cfg0.N) (k : Fin 1024) :
    (show FVec Ideal S1x1024 .f32 from iblk m c 1 t) (ix2 0 k) = m ((c : Thread nD τ).loc main_arg1) (ix1 k) := by
  blk_point [iblk, V, idx_val t]

/-- Window 2 holds one stretch of the joined matrices. -/
theorem blk2 (c : Dev nD) (t : Fin cfg0.N) (k : Fin 1024) (j : Fin 1024) (i : Fin 4096) (hi : i.val = t.val % 4 * 1024 + j.val) :
    (show FVec Ideal S1024x1024 .bf16 from iblk m c 2 t) (ix2 k j)
      = column (m ((c : Thread nD τ).loc main_arg2)) (m ((c : Thread nD τ).loc main_arg3)) i k := by
  have he : ((cfg0.win 2).blk t).view.emb (ix2 k j) = ix2 k i := by
    funext a
    match a with
    | ⟨0, _⟩ => exact Fin.ext (by blk_simp [idx_val t])
    | ⟨1, _⟩ => exact Fin.ext (by rw [show ((ix2 k i : S1024x4096.Idx) ⟨1, by decide⟩).val = i.val from rfl, hi]; blk_simp [idx_val t])
  rw [← joined_at m c k i, ← he]
  blk_simp [iblk]

/-- The blocks written back are the result's. -/
theorem final (c : Dev nD) : (dats m 0 c).arrAt 3 (cfgs 0).N = resultOf m c := by
  refine (dats m 0 c).arrAt_eq_of_covers 3 _ (by decide +kernel) fun t hf y => ?_
  blk_simp; rw [after0_3]; frame_out
  have ht : t.val < 32 := t.isLt
  obtain ⟨r, j, rfl⟩ : ∃ (r : Fin 256) (j : Fin 1024), y = ix2 r j :=
    ⟨y 0, y 1, funext fun a => by match a with | ⟨0, _⟩ => rfl | ⟨1, _⟩ => rfl⟩
  have e0 : (((cfg0.win 3).blk t).view.emb (ix2 r j) 0).val = t.val / 4 * 256 + r.val := by blk_simp [idx_val t]
  have e1 : (((cfg0.win 3).blk t).view.emb (ix2 r j) 1).val = t.val % 4 * 1024 + j.val := by blk_simp [idx_val t]
  refine (tile_at _ _ _ r j).trans ?_
  unfold resultOf projected
  refine Finset.sum_congr rfl fun k _ => congrArg₂ (· * ·) ?_ (blk2 m c t k j _ e1)
  have h0 : (fun k => (show FVec Ideal S256x1024 .f32 from iblk m c 0 t) (ix2 r k)) = _ :=
    funext fun k => (blk0 m c t r k ⟨t.val / 4, by omega⟩ rfl)
  have h1 : (fun k => (show FVec Ideal S1x1024 .f32 from iblk m c 1 t) (ix2 0 k)) = _ := funext fun k => (blk1 m c t k)
  refine congrFun (congrArg₂ normed (h0.trans (funext fun k => ?_)) h1) k
  refine congrArg _ (funext fun a => ?_)
  match a with
  | ⟨0, _⟩ => exact Fin.ext (by change t.val / 4 = (((cfg0.win 3).blk t).view.emb (ix2 r j) 0).val / 256; rw [e0]; omega)
  | ⟨1, _⟩ => exact Fin.ext (by change r.val = (((cfg0.win 3).blk t).view.emb (ix2 r j) 0).val % 256; rw [e0]; omega)
  | ⟨2, _⟩ => rfl

/-- The reference's normalised memory. -/
theorem ref_normed (x : FVec Ideal S8x256x1024 .f32) (g : FVec Ideal S1024 .f32) (r : Fin 2048) (k : Fin 1024) :
    Cert.Reference3Ideal.Read.val_main_v13 (F := Ideal) x g (ix2 r k)
      = normed (fun k => x (ix3 ⟨r.val / 256, by omega⟩ ⟨r.val % 256, by omega⟩ k)) (fun k => g (ix1 k)) k := by
  pointwise [Cert.Reference3Ideal.Read.val_main_v0, Cert.Reference3Ideal.Read.val_main_cst, Cert.Reference3Ideal.Read.val_main_v1, Cert.Reference3Ideal.Read.val_main_v2, Cert.Reference3Ideal.Read.val_main_cst_0, Cert.Reference3Ideal.Read.val_main_v3, Cert.Reference3Ideal.Read.val_main_v4, Cert.Reference3Ideal.Read.val_main_cst_1, Cert.Reference3Ideal.Read.val_main_v5, Cert.Reference3Ideal.Read.val_main_v6, Cert.Reference3Ideal.Read.val_main_v7, Cert.Reference3Ideal.Read.val_main_v8, Cert.Reference3Ideal.Read.val_main_v9, Cert.Reference3Ideal.Read.val_main_v10, Cert.Reference3Ideal.Read.val_main_v11, Cert.Reference3Ideal.Read.val_main_v12, Cert.Reference3Ideal.Read.val_main_v13, normed]

/-- The reference's result. -/
theorem ref_at (x : FVec Ideal S8x256x1024 .f32) (g : FVec Ideal S1024 .f32) (wk wv : FVec Ideal S2x1024x1024 .f32) (r : Fin 2048) (j : Fin 4096) :
    Cert.Reference3Ideal.Read.val_main_v27 (F := Ideal) x g wk wv (ix2 r j) = projected x g wk wv r j := by
  unfold projected column
  pointwise [Cert.Reference3Ideal.Read.val_main_v14, Cert.Reference3Ideal.Read.val_main_v15, Cert.Reference3Ideal.Read.val_main_v16, Cert.Reference3Ideal.Read.val_main_v17, Cert.Reference3Ideal.Read.val_main_v18, Cert.Reference3Ideal.Read.val_main_v19, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, ref_normed]
  split_ifs <;> rfl

/-- On memories that agree on the arguments the two results are equal. -/
theorem results_eq (m' : (ℓ : Loc Cert.Reference3Ideal.nD Cert.Reference3Ideal.τ Cert.Reference3Ideal.sig) → Buf (Elt Ideal) ℓ) (c : Dev nD)
    (h0 : m' ((c.tc : Thread Cert.Reference3Ideal.nD Cert.Reference3Ideal.τ).loc Cert.Reference3Ideal.main_arg0) = m ((c.tc : Thread nD τ).loc main_arg0))
    (h1 : m' ((c.tc : Thread Cert.Reference3Ideal.nD Cert.Reference3Ideal.τ).loc Cert.Reference3Ideal.main_arg1) = m ((c.tc : Thread nD τ).loc main_arg1))
    (h2 : m' ((c.tc : Thread Cert.Reference3Ideal.nD Cert.Reference3Ideal.τ).loc Cert.Reference3Ideal.main_arg2) = m ((c.tc : Thread nD τ).loc main_arg2))
    (h3 : m' ((c.tc : Thread Cert.Reference3Ideal.nD Cert.Reference3Ideal.τ).loc Cert.Reference3Ideal.main_arg3) = m ((c.tc : Thread nD τ).loc main_arg3)) :
    Cert.Reference3Ideal.Value.res_main_v27 m' c = resultOf m c := by
  funext y
  obtain ⟨r, j, rfl⟩ : ∃ (r : Fin 2048) (j : Fin 4096), y = ix2 r j :=
    ⟨y 0, y 1, funext fun a => by match a with | ⟨0, _⟩ => rfl | ⟨1, _⟩ => rfl⟩
  refine (congrFun (Cert.Reference3Ideal.Read.val_main_v27_eq m' c) (ix2 r j)).trans ((ref_at _ _ _ _ r j).trans ?_)
  rw [h0, h1, h2, h3]
  rfl

end Cert.Kernel3Ideal.Value

end
-- ==== Proof.Input.lean ====
module

public import proofs.«01_k».proof.Proof.Math
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.StableHlo.Run
public import Idealize.ShloMosaic.Lib.Pointwise
public import Idealize.ShloMosaic.Lib.Claim

/-! # The joint input projection

The kernel normalises a tile of 512 tokens and multiplies it into five stretches of one packed weight matrix, whose columns
the host has reordered (and padded with zero columns); the reference normalises every token, multiplies by the weights as
they come, and splits the product into the five branches' inputs. -/

@[expose] public section

set_option maxRecDepth 16384

noncomputable section

namespace Cert.Kernel2Ideal.Value

open Cert.Kernel2Ideal Cert.Kernel2Ideal.Gen
open Idealize.ShloMosaic Idealize.ShloMosaic.TcCoe Idealize.SL.Sem
open Idealize.ShloMosaic.Pipeline (Dat)
open Cert.Math

variable (m : (ℓ : Loc nD τ sig) → Buf (Elt Ideal) ℓ)

/-- Column `i` of the packed weights: the first 2560 columns, the last 256, the eight step sizes between them, zeros. -/
def packed (w : FVec Ideal S1024x2824 .f32) (i : Fin 2944) (k : Fin 1024) : EReal :=
  if h : i.val < 2560 then w (ix2 k ⟨i.val, by omega⟩)
  else if h : i.val - 2560 < 256 then w (ix2 k ⟨2568 + (i.val - 2560), by omega⟩)
  else if h : i.val - 2560 - 256 < 8 then w (ix2 k ⟨2560 + (i.val - 2560 - 256), by omega⟩)
  else 0

/-- Token `r`, normalised, through column `i` of the packed weights. -/
def through (x : FVec Ideal S8x4096x1024 .f32) (g : FVec Ideal S1024 .f32) (w : FVec Ideal S1024x2824 .f32) (r : Fin 32768) (i : Fin 2944) : EReal :=
  ∑ k, normed (fun k => x (ix3 ⟨r.val / 4096, by omega⟩ ⟨r.val % 4096, by omega⟩ k)) (fun k => g (ix1 k)) k * packed w i k

/-- A packed column is a column of the weights. -/
theorem packed_eq (w : FVec Ideal S1024x2824 .f32) (i : Fin 2944) (q : Fin 2824) (k : Fin 1024)
    (h : i.val < 2560 ∧ q.val = i.val ∨ 2560 ≤ i.val ∧ i.val < 2816 ∧ q.val = i.val + 8 ∨ 2816 ≤ i.val ∧ i.val < 2824 ∧ q.val + 256 = i.val) :
    packed w i k = w (ix2 k q) := by
  unfold packed
  split_ifs with h1 h2 h3
  · exact congrArg w (congrArg (ix2 k) (Fin.ext (by change i.val = q.val; omega)))
  · exact congrArg w (congrArg (ix2 k) (Fin.ext (by change 2568 + (i.val - 2560) = q.val; omega)))
  · exact congrArg w (congrArg (ix2 k) (Fin.ext (by change 2560 + (i.val - 2560 - 256) = q.val; omega)))
  · omega

/-- The normalised tile. -/
theorem norm_at (x0 : Vec Ideal S512x1024 .f32) (x1 : Vec Ideal S1x1024 .f32) (r : Fin 512) (k : Fin 1024) :
    k0_pay3 (F := Ideal) x0 x1 (ix2 r k) = normed (fun k => x0 (ix2 r k)) (fun k => x1 (ix2 0 k)) k := by
  pointwise [k0_pay3, normed]

/-- The normalised tile, as the last two products read it. -/
theorem norm_at' (x0 : Vec Ideal S512x1024 .f32) (x1 : Vec Ideal S1x1024 .f32) (x2 : Vec Ideal S1024x2944 .bf16) (r : Fin 512) (k : Fin 1024) :
    k0_pay7 (F := Ideal) x0 x1 x2 (ix2 r k) = normed (fun k => x0 (ix2 r k)) (fun k => x1 (ix2 0 k)) k := by
  pointwise [k0_pay7, k0_pay3, normed]

/-- One entry of the tile of the retention branch's input. -/
theorem tile3_at (x0 : Vec Ideal S512x1024 .f32) (x1 : Vec Ideal S1x1024 .f32) (w : Vec Ideal S1024x1024 .bf16) (r : Fin 512) (j : Fin 1024) :
    k0_pay4 (F := Ideal) x0 x1 w (ix2 r j) = ∑ k, normed (fun k => x0 (ix2 r k)) (fun k => x1 (ix2 0 k)) k * w (ix2 k j) := by
  pointwise [k0_pay4, norm_at]

/-- One entry of the tile of the gate of the scan branch. -/
theorem tile4_at (x0 : Vec Ideal S512x1024 .f32) (x1 : Vec Ideal S1x1024 .f32) (w : Vec Ideal S1024x512 .bf16) (r : Fin 512) (j : Fin 512) :
    k0_pay5 (F := Ideal) x0 x1 w (ix2 r j) = ∑ k, normed (fun k => x0 (ix2 r k)) (fun k => x1 (ix2 0 k)) k * w (ix2 k j) := by
  pointwise [k0_pay5, norm_at]

/-- One entry of the tile of the scan branch's input. -/
theorem tile5_at (x0 : Vec Ideal S512x1024 .f32) (x1 : Vec Ideal S1x1024 .f32) (w : Vec Ideal S1024x1024 .bf16) (r : Fin 512) (j : Fin 1024) :
    k0_pay6 (F := Ideal) x0 x1 w (ix2 r j) = ∑ k, normed (fun k => x0 (ix2 r k)) (fun k => x1 (ix2 0 k)) k * w (ix2 k j) := by
  pointwise [k0_pay6, norm_at]

/-- One entry of the tile of the state-space branch's input. -/
theorem tile6_at (x0 : Vec Ideal S512x1024 .f32) (x1 : Vec Ideal S1x1024 .f32) (x2 : Vec Ideal S1024x2944 .bf16) (w : Vec Ideal S1024x256 .bf16) (r : Fin 512) (j : Fin 256) :
    k0_pay1 (F := Ideal) (k0_pay7 x0 x1 x2) w (ix2 r j) = ∑ k, normed (fun k => x0 (ix2 r k)) (fun k => x1 (ix2 0 k)) k * w (ix2 k j) := by
  pointwise [k0_pay1, norm_at']

/-- One entry of the tile of the scan branch's step sizes. -/
theorem tile7_at (x0 : Vec Ideal S512x1024 .f32) (x1 : Vec Ideal S1x1024 .f32) (x2 : Vec Ideal S1024x2944 .bf16) (w : Vec Ideal S1024x128 .bf16) (r : Fin 512) (j : Fin 128) :
    k0_pay2 (F := Ideal) (k0_pay7 x0 x1 x2) w (ix2 r j) = ∑ k, normed (fun k => x0 (ix2 r k)) (fun k => x1 (ix2 0 k)) k * w (ix2 k j) := by
  pointwise [k0_pay2, norm_at']

/-- Every window's block index. -/
theorem idx_val : ∀ t : Fin cfg0.N, win0_0.index t = ![t.val, 0]
    ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The packed weights, as the host builds them. -/
theorem weights_eq (c : Dev nD) : (show FVec Ideal S1024x2944 .bf16 from V m c main_v5)
    = truncf .bf16 (concatenate S1024x2944 1
        [⟨S1024x2560, (extractStridedSlice S1024x2560 ![0, 0] (m ((c : Thread nD τ).loc main_arg2)) slices_S1024x2824_S1024x2560_0_0 : FVec Ideal S1024x2560 .f32)⟩,
         ⟨S1024x256, (extractStridedSlice S1024x256 ![0, 2568] (m ((c : Thread nD τ).loc main_arg2)) slices_S1024x2824_S1024x256_0_2568 : FVec Ideal S1024x256 .f32)⟩,
         ⟨S1024x8, (extractStridedSlice S1024x8 ![0, 2560] (m ((c : Thread nD τ).loc main_arg2)) slices_S1024x2824_S1024x8_0_2560 : FVec Ideal S1024x8 .f32)⟩,
         ⟨S1024x120, (broadcastInDim S1024x120 ![] bcast_S_S1024x120 (constant S_ .f32 0x00000000#32) : FVec Ideal S1024x120 .f32)⟩]
        concatenates_S1024x2560_S1024x256_S1024x8_S1024x120_S1024x2944_d1 : FVec Ideal S1024x2944 .f32) bitsLt_bf16_f32 := by
  show V m c main_v5 = _
  unfold V
  after_results_simp <;> (try dsimp only [Matrix.cons_val]) <;> (try after_results_simp) <;> rfl

/-- The packed weights, entry by entry. -/
theorem weights_at (c : Dev nD) (k : Fin 1024) (i : Fin 2944) :
    (show FVec Ideal S1024x2944 .bf16 from V m c main_v5) (ix2 k i) = packed (m ((c : Thread nD τ).loc main_arg2)) i k := by
  rw [weights_eq]
  pointwise [packed]

/-- Window 0 holds a tile of 512 tokens. -/
theorem blk0 (c : Dev nD) (t : Fin cfg0.N) (r : Fin 512) (k : Fin 1024) (R : Fin 32768) (hR : R.val = t.val * 512 + r.val) :
    (show FVec Ideal S512x1024 .f32 from iblk m c 0 t) (ix2 r k)
      = m ((c : Thread nD τ).loc main_arg0) (ix3 ⟨R.val / 4096, by omega⟩ ⟨R.val % 4096, by omega⟩ k) := by
  simp only [hR]
  blk_simp [iblk]
  entry_read
  pointwise
  blk_ext [idx_val t]

/-- Window 1 holds the gain. -/
theorem blk1 (c : Dev nD) (t : Fin cfg0.N) (k : Fin 1024) :
    (show FVec Ideal S1x1024 .f32 from iblk m c 1 t) (ix2 0 k) = m ((c : Thread nD τ).loc main_arg1) (ix1 k) := by
  blk_point [iblk, V, idx_val t]

/-- Window 2 holds the packed weights. -/
theorem blk2 (c : Dev nD) (t : Fin cfg0.N) (k : Fin 1024) (i : Fin 2944) :
    (show FVec Ideal S1024x2944 .bf16 from iblk m c 2 t) (ix2 k i) = packed (m ((c : Thread nD τ).loc main_arg2)) i k := by
  have he : ((cfg0.win 2).blk t).view.emb (ix2 k i) = ix2 k i := by
    funext a
    match a with
    | ⟨0, _⟩ => exact Fin.ext (by blk_simp [idx_val t])
    | ⟨1, _⟩ => exact Fin.ext (by blk_simp [idx_val t])
  rw [← weights_at m c k i]
  conv_rhs => rw [← he]
  blk_simp [iblk]

/-- A stretch of columns of the packed weights, read at one entry. -/
theorem stretch_at (x : Vec Ideal S1024x2944 .bf16) (o n : ℕ) (h) (k : Fin 1024) (j : Fin n) (i : Fin 2944) (hi : i.val = o + j.val) :
    View.ld x (Rect.unit (s := S1024x2944) ![0, o] ![1024, n] h) (ix2 k j) = x (ix2 k i) := by
  refine congrArg x (funext fun a => ?_)
  match a with
  | ⟨0, _⟩ => exact Fin.ext ((Rect.emb_apply _ _ _).trans (by change 0 + 1 * k.val = k.val; omega))
  | ⟨1, _⟩ => exact Fin.ext ((Rect.emb_apply _ _ _).trans (by change o + 1 * j.val = i.val; omega))

/-- What a tile's row and one packed column come to. -/
theorem row_through (c : Dev nD) (t : Fin cfg0.N) (r : Fin 512) (R : Fin 32768) (hR : R.val = t.val * 512 + r.val) (i : Fin 2944)
    (w : Fin 1024 → EReal) (hw : ∀ k, w k = packed (m ((c : Thread nD τ).loc main_arg2)) i k) :
    ∑ k, normed (fun k => (show FVec Ideal S512x1024 .f32 from iblk m c 0 t) (ix2 r k)) (fun k => (show FVec Ideal S1x1024 .f32 from iblk m c 1 t) (ix2 0 k)) k * w k
      = through (m ((c : Thread nD τ).loc main_arg0)) (m ((c : Thread nD τ).loc main_arg1)) (m ((c : Thread nD τ).loc main_arg2)) R i := by
  rw [funext fun k => blk0 m c t r k R hR, funext fun k => blk1 m c t k, funext hw]
  rfl

/-- The kernel's the retention branch's input. -/
def result3 (c : Dev nD) : FVec Ideal S32768x1024 .bf16 := fun y =>
  through (m ((c : Thread nD τ).loc main_arg0)) (m ((c : Thread nD τ).loc main_arg1)) (m ((c : Thread nD τ).loc main_arg2)) (y 0) ⟨0 + (y 1).val, by have := (y 1).isLt; change (y 1).val < 1024 at this; omega⟩

/-- The blocks written back are the retention branch's input. -/
theorem final3 (c : Dev nD) : (dats m 0 c).arrAt 3 (cfgs 0).N = result3 m c := by
  refine (dats m 0 c).arrAt_eq_of_covers 3 _ (by decide +kernel) fun t hf y => ?_
  blk_simp; rw [after0_3]; frame_out
  obtain ⟨r, j, rfl⟩ : ∃ (r : Fin 512) (j : Fin 1024), y = ix2 r j :=
    ⟨y 0, y 1, funext fun a => by match a with | ⟨0, _⟩ => rfl | ⟨1, _⟩ => rfl⟩
  have e0 : (((cfg0.win 3).blk t).view.emb (ix2 r j) 0).val = t.val * 512 + r.val := by blk_simp [idx_val t]
  have e1 : (((cfg0.win 3).blk t).view.emb (ix2 r j) 1).val = j.val := by blk_simp [idx_val t]
  refine (tile3_at _ _ _ r j).trans (row_through m c t r _ e0 _ _ fun k => ?_)
  exact (stretch_at _ 0 1024 _ k j _ (by change 0 + (((cfg0.win 3).blk t).view.emb (ix2 r j) 1).val = _; rw [e1])).trans (blk2 m c t k _)

/-- The kernel's the gate of the scan branch. -/
def result4 (c : Dev nD) : FVec Ideal S32768x512 .bf16 := fun y =>
  through (m ((c : Thread nD τ).loc main_arg0)) (m ((c : Thread nD τ).loc main_arg1)) (m ((c : Thread nD τ).loc main_arg2)) (y 0) ⟨1024 + (y 1).val, by have := (y 1).isLt; change (y 1).val < 512 at this; omega⟩

/-- The blocks written back are the gate of the scan branch. -/
theorem final4 (c : Dev nD) : (dats m 0 c).arrAt 4 (cfgs 0).N = result4 m c := by
  refine (dats m 0 c).arrAt_eq_of_covers 4 _ (by decide +kernel) fun t hf y => ?_
  blk_simp; rw [after0_4]; frame_out
  obtain ⟨r, j, rfl⟩ : ∃ (r : Fin 512) (j : Fin 512), y = ix2 r j :=
    ⟨y 0, y 1, funext fun a => by match a with | ⟨0, _⟩ => rfl | ⟨1, _⟩ => rfl⟩
  have e0 : (((cfg0.win 4).blk t).view.emb (ix2 r j) 0).val = t.val * 512 + r.val := by blk_simp [idx_val t]
  have e1 : (((cfg0.win 4).blk t).view.emb (ix2 r j) 1).val = j.val := by blk_simp [idx_val t]
  refine (tile4_at _ _ _ r j).trans (row_through m c t r _ e0 _ _ fun k => ?_)
  exact (stretch_at _ 1024 512 _ k j _ (by change 1024 + (((cfg0.win 4).blk t).view.emb (ix2 r j) 1).val = _; rw [e1])).trans (blk2 m c t k _)

/-- The kernel's the scan branch's input. -/
def result5 (c : Dev nD) : FVec Ideal S32768x1024 .bf16 := fun y =>
  through (m ((c : Thread nD τ).loc main_arg0)) (m ((c : Thread nD τ).loc main_arg1)) (m ((c : Thread nD τ).loc main_arg2)) (y 0) ⟨1536 + (y 1).val, by have := (y 1).isLt; change (y 1).val < 1024 at this; omega⟩

/-- The blocks written back are the scan branch's input. -/
theorem final5 (c : Dev nD) : (dats m 0 c).arrAt 5 (cfgs 0).N = result5 m c := by
  refine (dats m 0 c).arrAt_eq_of_covers 5 _ (by decide +kernel) fun t hf y => ?_
  blk_simp; rw [after0_5]; frame_out
  obtain ⟨r, j, rfl⟩ : ∃ (r : Fin 512) (j : Fin 1024), y = ix2 r j :=
    ⟨y 0, y 1, funext fun a => by match a with | ⟨0, _⟩ => rfl | ⟨1, _⟩ => rfl⟩
  have e0 : (((cfg0.win 5).blk t).view.emb (ix2 r j) 0).val = t.val * 512 + r.val := by blk_simp [idx_val t]
  have e1 : (((cfg0.win 5).blk t).view.emb (ix2 r j) 1).val = j.val := by blk_simp [idx_val t]
  refine (tile5_at _ _ _ r j).trans (row_through m c t r _ e0 _ _ fun k => ?_)
  exact (stretch_at _ 1536 1024 _ k j _ (by change 1536 + (((cfg0.win 5).blk t).view.emb (ix2 r j) 1).val = _; rw [e1])).trans (blk2 m c t k _)

/-- The kernel's the state-space branch's input. -/
def result6 (c : Dev nD) : FVec Ideal S32768x256 .f32 := fun y =>
  through (m ((c : Thread nD τ).loc main_arg0)) (m ((c : Thread nD τ).loc main_arg1)) (m ((c : Thread nD τ).loc main_arg2)) (y 0) ⟨2560 + (y 1).val, by have := (y 1).isLt; change (y 1).val < 256 at this; omega⟩

/-- The blocks written back are the state-space branch's input. -/
theorem final6 (c : Dev nD) : (dats m 0 c).arrAt 6 (cfgs 0).N = result6 m c := by
  refine (dats m 0 c).arrAt_eq_of_covers 6 _ (by decide +kernel) fun t hf y => ?_
  blk_simp; rw [after0_6]; frame_out
  obtain ⟨r, j, rfl⟩ : ∃ (r : Fin 512) (j : Fin 256), y = ix2 r j :=
    ⟨y 0, y 1, funext fun a => by match a with | ⟨0, _⟩ => rfl | ⟨1, _⟩ => rfl⟩
  have e0 : (((cfg0.win 6).blk t).view.emb (ix2 r j) 0).val = t.val * 512 + r.val := by blk_simp [idx_val t]
  have e1 : (((cfg0.win 6).blk t).view.emb (ix2 r j) 1).val = j.val := by blk_simp [idx_val t]
  refine (tile6_at _ _ _ _ r j).trans (row_through m c t r _ e0 _ _ fun k => ?_)
  exact (stretch_at _ 2560 256 _ k j _ (by change 2560 + (((cfg0.win 6).blk t).view.emb (ix2 r j) 1).val = _; rw [e1])).trans (blk2 m c t k _)

/-- The kernel's the scan branch's step sizes. -/
def result7 (c : Dev nD) : FVec Ideal S32768x128 .f32 := fun y =>
  through (m ((c : Thread nD τ).loc main_arg0)) (m ((c : Thread nD τ).loc main_arg1)) (m ((c : Thread nD τ).loc main_arg2)) (y 0) ⟨2816 + (y 1).val, by have := (y 1).isLt; change (y 1).val < 128 at this; omega⟩

/-- The blocks written back are the scan branch's step sizes. -/
theorem final7 (c : Dev nD) : (dats m 0 c).arrAt 7 (cfgs 0).N = result7 m c := by
  refine (dats m 0 c).arrAt_eq_of_covers 7 _ (by decide +kernel) fun t hf y => ?_
  blk_simp; rw [after0_7]; frame_out
  obtain ⟨r, j, rfl⟩ : ∃ (r : Fin 512) (j : Fin 128), y = ix2 r j :=
    ⟨y 0, y 1, funext fun a => by match a with | ⟨0, _⟩ => rfl | ⟨1, _⟩ => rfl⟩
  have e0 : (((cfg0.win 7).blk t).view.emb (ix2 r j) 0).val = t.val * 512 + r.val := by blk_simp [idx_val t]
  have e1 : (((cfg0.win 7).blk t).view.emb (ix2 r j) 1).val = j.val := by blk_simp [idx_val t]
  refine (tile7_at _ _ _ _ r j).trans (row_through m c t r _ e0 _ _ fun k => ?_)
  exact (stretch_at _ 2816 128 _ k j _ (by change 2816 + (((cfg0.win 7).blk t).view.emb (ix2 r j) 1).val = _; rw [e1])).trans (blk2 m c t k _)

/-- The reference's normalised tokens. -/
theorem ref_normed (x : FVec Ideal S8x4096x1024 .f32) (g : FVec Ideal S1024 .f32) (b : Fin 8) (s : Fin 4096) (k : Fin 1024) :
    Cert.Reference2Ideal.Read.val_main_v12 (F := Ideal) x g (ix3 b s k) = normed (fun k => x (ix3 b s k)) (fun k => g (ix1 k)) k := by
  pointwise [Cert.Reference2Ideal.Read.val_main_v0, Cert.Reference2Ideal.Read.val_main_cst, Cert.Reference2Ideal.Read.val_main_v1, Cert.Reference2Ideal.Read.val_main_v2, Cert.Reference2Ideal.Read.val_main_cst_0, Cert.Reference2Ideal.Read.val_main_v3, Cert.Reference2Ideal.Read.val_main_v4, Cert.Reference2Ideal.Read.val_main_cst_1, Cert.Reference2Ideal.Read.val_main_v5, Cert.Reference2Ideal.Read.val_main_v6, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, normed]

/-- The reference's product. -/
theorem ref_product (x : FVec Ideal S8x4096x1024 .f32) (g : FVec Ideal S1024 .f32) (w : FVec Ideal S1024x2824 .f32) (r : Fin 32768) (q : Fin 2824) :
    Cert.Reference2Ideal.Read.val_main_v14 (F := Ideal) x g w (ix2 r q)
      = ∑ k, normed (fun k => x (ix3 ⟨r.val / 4096, by omega⟩ ⟨r.val % 4096, by omega⟩ k)) (fun k => g (ix1 k)) k * w (ix2 k q) := by
  pointwise [Cert.Reference2Ideal.Read.val_main_v13, Cert.Reference2Ideal.Read.val_main_v14, ref_normed]

/-- The reference's product at the column that packed column `i` is. -/
theorem ref_through (x : FVec Ideal S8x4096x1024 .f32) (g : FVec Ideal S1024 .f32) (w : FVec Ideal S1024x2824 .f32) (r : Fin 32768) (i : Fin 2944) (q : Fin 2824)
    (h : i.val < 2560 ∧ q.val = i.val ∨ 2560 ≤ i.val ∧ i.val < 2816 ∧ q.val = i.val + 8 ∨ 2816 ≤ i.val ∧ i.val < 2824 ∧ q.val + 256 = i.val) :
    Cert.Reference2Ideal.Read.val_main_v14 (F := Ideal) x g w (ix2 r q) = through x g w r i := by
  rw [ref_product]
  exact Finset.sum_congr rfl fun k _ => congrArg _ (packed_eq w i q k h).symm

/-- The reference's the retention branch's input. -/
theorem ref3_at (x : FVec Ideal S8x4096x1024 .f32) (g : FVec Ideal S1024 .f32) (w : FVec Ideal S1024x2824 .f32) (r : Fin 32768) (j : Fin 1024) :
    Cert.Reference2Ideal.Read.val_main_v21 (F := Ideal) x g w (ix2 r j) = through x g w r ⟨0 + j.val, by omega⟩ := by
  rw [← ref_through x g w r ⟨0 + j.val, by omega⟩ ⟨0 + j.val, by omega⟩ (by dsimp only; omega)]
  pointwise [Cert.Reference2Ideal.Read.val_main_v21, Cert.Reference2Ideal.Read.val_main_v15]

/-- The reference's the gate of the scan branch. -/
theorem ref4_at (x : FVec Ideal S8x4096x1024 .f32) (g : FVec Ideal S1024 .f32) (w : FVec Ideal S1024x2824 .f32) (r : Fin 32768) (j : Fin 512) :
    Cert.Reference2Ideal.Read.val_main_v22 (F := Ideal) x g w (ix2 r j) = through x g w r ⟨1024 + j.val, by omega⟩ := by
  rw [← ref_through x g w r ⟨1024 + j.val, by omega⟩ ⟨1024 + j.val, by omega⟩ (by dsimp only; omega)]
  pointwise [Cert.Reference2Ideal.Read.val_main_v22, Cert.Reference2Ideal.Read.val_main_v16]

/-- The reference's the scan branch's input. -/
theorem ref5_at (x : FVec Ideal S8x4096x1024 .f32) (g : FVec Ideal S1024 .f32) (w : FVec Ideal S1024x2824 .f32) (r : Fin 32768) (j : Fin 1024) :
    Cert.Reference2Ideal.Read.val_main_v23 (F := Ideal) x g w (ix2 r j) = through x g w r ⟨1536 + j.val, by omega⟩ := by
  rw [← ref_through x g w r ⟨1536 + j.val, by omega⟩ ⟨1536 + j.val, by omega⟩ (by dsimp only; omega)]
  pointwise [Cert.Reference2Ideal.Read.val_main_v23, Cert.Reference2Ideal.Read.val_main_v17]

/-- The reference's the state-space branch's input. -/
theorem ref6_at (x : FVec Ideal S8x4096x1024 .f32) (g : FVec Ideal S1024 .f32) (w : FVec Ideal S1024x2824 .f32) (r : Fin 32768) (j : Fin 256) :
    Cert.Reference2Ideal.Read.val_main_v19 (F := Ideal) x g w (ix2 r j) = through x g w r ⟨2560 + j.val, by omega⟩ := by
  rw [← ref_through x g w r ⟨2560 + j.val, by omega⟩ ⟨2568 + j.val, by omega⟩ (by dsimp only; omega)]
  pointwise [Cert.Reference2Ideal.Read.val_main_v19]

/-- The reference's step sizes, zeros from the ninth lane on. -/
theorem ref7_at (x : FVec Ideal S8x4096x1024 .f32) (g : FVec Ideal S1024 .f32) (w : FVec Ideal S1024x2824 .f32) (r : Fin 32768) (j : Fin 128) :
    Cert.Reference2Ideal.Read.val_main_v20 (F := Ideal) x g w (ix2 r j) = through x g w r ⟨2816 + j.val, by omega⟩ := by
  by_cases hj : j.val < 8
  · rw [← ref_through x g w r ⟨2816 + j.val, by omega⟩ ⟨2560 + j.val, by omega⟩ (by dsimp only; omega)]
    pointwise [Cert.Reference2Ideal.Read.val_main_v20, Cert.Reference2Ideal.Read.val_main_v18, Cert.Reference2Ideal.Read.val_main_c, Cert.Reference2Ideal.Read.val_main_call0_v0]
    rw [dif_pos hj]
  · have hz : ∀ k, packed w ⟨2816 + j.val, by omega⟩ k = 0 := fun k => by
      unfold packed
      rw [dif_neg (by dsimp only; omega), dif_neg (by dsimp only; omega), dif_neg (by dsimp only; omega)]
    unfold through
    simp only [hz, mul_zero, Finset.sum_const_zero]
    pointwise [Cert.Reference2Ideal.Read.val_main_v20, Cert.Reference2Ideal.Read.val_main_v18, Cert.Reference2Ideal.Read.val_main_c, Cert.Reference2Ideal.Read.val_main_call0_v0]
    rw [dif_neg hj]
    first | exact sitofp_zero | (change (((0#32 : BitVec 32).toInt : ℝ) : EReal) = 0; simp)

/-- The reference's `v21` of arguments equal to the kernel's is result 3. -/
theorem ref3 (c : Dev nD) {x : FVec Ideal S8x4096x1024 .f32} {g : FVec Ideal S1024 .f32} {w : FVec Ideal S1024x2824 .f32}
    (hx : x = m ((c : Thread nD τ).loc main_arg0)) (hg : g = m ((c : Thread nD τ).loc main_arg1)) (hw : w = m ((c : Thread nD τ).loc main_arg2)) :
    Cert.Reference2Ideal.Read.val_main_v21 (F := Ideal) x g w = result3 m c := by
  subst hx hg hw
  funext y
  obtain ⟨r, j, rfl⟩ : ∃ (r : Fin 32768) (j : Fin 1024), y = ix2 r j :=
    ⟨y 0, y 1, funext fun a => by match a with | ⟨0, _⟩ => rfl | ⟨1, _⟩ => rfl⟩
  exact ref3_at _ _ _ r j

/-- The reference's `v22` of arguments equal to the kernel's is result 4. -/
theorem ref4 (c : Dev nD) {x : FVec Ideal S8x4096x1024 .f32} {g : FVec Ideal S1024 .f32} {w : FVec Ideal S1024x2824 .f32}
    (hx : x = m ((c : Thread nD τ).loc main_arg0)) (hg : g = m ((c : Thread nD τ).loc main_arg1)) (hw : w = m ((c : Thread nD τ).loc main_arg2)) :
    Cert.Reference2Ideal.Read.val_main_v22 (F := Ideal) x g w = result4 m c := by
  subst hx hg hw
  funext y
  obtain ⟨r, j, rfl⟩ : ∃ (r : Fin 32768) (j : Fin 512), y = ix2 r j :=
    ⟨y 0, y 1, funext fun a => by match a with | ⟨0, _⟩ => rfl | ⟨1, _⟩ => rfl⟩
  exact ref4_at _ _ _ r j

/-- The reference's `v23` of arguments equal to the kernel's is result 5. -/
theorem ref5 (c : Dev nD) {x : FVec Ideal S8x4096x1024 .f32} {g : FVec Ideal S1024 .f32} {w : FVec Ideal S1024x2824 .f32}
    (hx : x = m ((c : Thread nD τ).loc main_arg0)) (hg : g = m ((c : Thread nD τ).loc main_arg1)) (hw : w = m ((c : Thread nD τ).loc main_arg2)) :
    Cert.Reference2Ideal.Read.val_main_v23 (F := Ideal) x g w = result5 m c := by
  subst hx hg hw
  funext y
  obtain ⟨r, j, rfl⟩ : ∃ (r : Fin 32768) (j : Fin 1024), y = ix2 r j :=
    ⟨y 0, y 1, funext fun a => by match a with | ⟨0, _⟩ => rfl | ⟨1, _⟩ => rfl⟩
  exact ref5_at _ _ _ r j

/-- The reference's `v19` of arguments equal to the kernel's is result 6. -/
theorem ref6 (c : Dev nD) {x : FVec Ideal S8x4096x1024 .f32} {g : FVec Ideal S1024 .f32} {w : FVec Ideal S1024x2824 .f32}
    (hx : x = m ((c : Thread nD τ).loc main_arg0)) (hg : g = m ((c : Thread nD τ).loc main_arg1)) (hw : w = m ((c : Thread nD τ).loc main_arg2)) :
    Cert.Reference2Ideal.Read.val_main_v19 (F := Ideal) x g w = result6 m c := by
  subst hx hg hw
  funext y
  obtain ⟨r, j, rfl⟩ : ∃ (r : Fin 32768) (j : Fin 256), y = ix2 r j :=
    ⟨y 0, y 1, funext fun a => by match a with | ⟨0, _⟩ => rfl | ⟨1, _⟩ => rfl⟩
  exact ref6_at _ _ _ r j

/-- The reference's `v20` of arguments equal to the kernel's is result 7. -/
theorem ref7 (c : Dev nD) {x : FVec Ideal S8x4096x1024 .f32} {g : FVec Ideal S1024 .f32} {w : FVec Ideal S1024x2824 .f32}
    (hx : x = m ((c : Thread nD τ).loc main_arg0)) (hg : g = m ((c : Thread nD τ).loc main_arg1)) (hw : w = m ((c : Thread nD τ).loc main_arg2)) :
    Cert.Reference2Ideal.Read.val_main_v20 (F := Ideal) x g w = result7 m c := by
  subst hx hg hw
  funext y
  obtain ⟨r, j, rfl⟩ : ∃ (r : Fin 32768) (j : Fin 128), y = ix2 r j :=
    ⟨y 0, y 1, funext fun a => by match a with | ⟨0, _⟩ => rfl | ⟨1, _⟩ => rfl⟩
  exact ref7_at _ _ _ r j

end Cert.Kernel2Ideal.Value

end
-- ==== Proof.Tile.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.ValueIdx
public import Idealize.ShloMosaic.Lib.Ring
public import Idealize.ShloMosaic.Lib.Tactic
public import Idealize.ShloMosaic.Lib.WordCmp

/-! # One grid point of the mixer's last stage

The kernel's body works on one tile of 512 tokens. It joins the three branch outputs to the residual stream, lets
every token attend to the memory tokens, and writes the new residual stream out as 4096 short rows of 128 lanes:
row `8 r + j` holds lanes `128 j … 128 j + 127` of token `r`. This module names the value those stores leave
(`tiles (rowsOut …)`) and proves that the body leaves it, whatever the routing part of the body does besides. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The residual stream of one tile after the output projection: the tile of `h` plus the three branches' outputs
    through their rows of the projection matrix. -/
def residOut (x0 : Vec F S512x1024 .f32) (x1 : Vec F S512x256 .bf16) (x2 : Vec F S512x512 .bf16) (x3 : Vec F S512x256 .f32) (x4 : Vec F S512x256 .f32) (x5 : Vec F S1x256 .f32) (x6 : Vec F S256x256 .bf16) (x7 : Vec F S1x256 .f32) (x8 : Vec F S1024x1024 .bf16) : FVec F S512x1024 .f32 :=
  k0_pay13 (k0_pay6 (View.ld x0 (Rect.unit (s := S512x1024) ![0, 0] S512x1024.size inb_S512x1024_S512x1024_0_0))) (k0_pay7 (View.ld x1 (Rect.unit (s := S512x256) ![0, 0] S512x256.size inb_S512x256_S512x256_0_0))) (k0_pay8 (View.ld x2 (Rect.unit (s := S512x512) ![0, 0] S512x512.size inb_S512x512_S512x512_0_0)))
    (k0_pay9 (View.ld x7 (Rect.unit (s := S1x256) ![0, 0] S1x256.size inb_S1x256_S1x256_0_0)))
    (k0_pay10 (View.ld x3 (Rect.unit (s := S512x256) ![0, 0] S512x256.size inb_S512x256_S512x256_0_0)) (View.ld x4 (Rect.unit (s := S512x256) ![0, 0] S512x256.size inb_S512x256_S512x256_0_0)) (View.ld x5 (Rect.unit (s := S1x256) ![0, 0] S1x256.size inb_S1x256_S1x256_0_0)))
    (k0_pay11 (View.ld x3 (Rect.unit (s := S512x256) ![0, 0] S512x256.size inb_S512x256_S512x256_0_0)) (View.ld x4 (Rect.unit (s := S512x256) ![0, 0] S512x256.size inb_S512x256_S512x256_0_0)) (View.ld x5 (Rect.unit (s := S1x256) ![0, 0] S1x256.size inb_S1x256_S1x256_0_0)))
    (k0_pay12 (View.ld x6 (Rect.unit (s := S256x256) ![0, 0] S256x256.size inb_S256x256_S256x256_0_0)))
    (View.ld x8 (Rect.unit (s := S1024x1024) ![0, 0] S256x1024.size inb_S1024x1024_S256x1024_0_0))
    (View.ld x8 (Rect.unit (s := S1024x1024) ![256, 0] S512x1024.size inb_S1024x1024_S512x1024_256_0))
    (View.ld x8 (Rect.unit (s := S1024x1024) ![768, 0] S256x1024.size inb_S1024x1024_S256x1024_768_0))

/-- The queries of one tile: the normalised residual stream through the query matrix, scaled. -/
def queryOut (x0 : Vec F S512x1024 .f32) (x1 : Vec F S512x256 .bf16) (x2 : Vec F S512x512 .bf16) (x3 : Vec F S512x256 .f32) (x4 : Vec F S512x256 .f32) (x5 : Vec F S1x256 .f32) (x6 : Vec F S256x256 .bf16) (x7 : Vec F S1x256 .f32) (x8 : Vec F S1024x1024 .bf16) (x9 : Vec F S1x1024 .f32) (x10 : Vec F S1024x1024 .bf16) : FVec F S512x1024 .bf16 :=
  k0_pay14 (k0_pay6 (View.ld x0 (Rect.unit (s := S512x1024) ![0, 0] S512x1024.size inb_S512x1024_S512x1024_0_0))) (k0_pay7 (View.ld x1 (Rect.unit (s := S512x256) ![0, 0] S512x256.size inb_S512x256_S512x256_0_0))) (k0_pay8 (View.ld x2 (Rect.unit (s := S512x512) ![0, 0] S512x512.size inb_S512x512_S512x512_0_0)))
    (k0_pay9 (View.ld x7 (Rect.unit (s := S1x256) ![0, 0] S1x256.size inb_S1x256_S1x256_0_0)))
    (k0_pay10 (View.ld x3 (Rect.unit (s := S512x256) ![0, 0] S512x256.size inb_S512x256_S512x256_0_0)) (View.ld x4 (Rect.unit (s := S512x256) ![0, 0] S512x256.size inb_S512x256_S512x256_0_0)) (View.ld x5 (Rect.unit (s := S1x256) ![0, 0] S1x256.size inb_S1x256_S1x256_0_0)))
    (k0_pay11 (View.ld x3 (Rect.unit (s := S512x256) ![0, 0] S512x256.size inb_S512x256_S512x256_0_0)) (View.ld x4 (Rect.unit (s := S512x256) ![0, 0] S512x256.size inb_S512x256_S512x256_0_0)) (View.ld x5 (Rect.unit (s := S1x256) ![0, 0] S1x256.size inb_S1x256_S1x256_0_0)))
    (k0_pay12 (View.ld x6 (Rect.unit (s := S256x256) ![0, 0] S256x256.size inb_S256x256_S256x256_0_0)))
    (View.ld x8 (Rect.unit (s := S1024x1024) ![0, 0] S256x1024.size inb_S1024x1024_S256x1024_0_0))
    (View.ld x8 (Rect.unit (s := S1024x1024) ![256, 0] S512x1024.size inb_S1024x1024_S512x1024_256_0))
    (View.ld x8 (Rect.unit (s := S1024x1024) ![768, 0] S256x1024.size inb_S1024x1024_S256x1024_768_0))
    (View.ld x9 (Rect.unit (s := S1x1024) ![0, 0] S1x1024.size inb_S1x1024_S1x1024_0_0)) (View.ld x10 (Rect.unit (s := S1024x1024) ![0, 0] S1024x1024.size inb_S1024x1024_S1024x1024_0_0))

/-- The first head's queries of one tile. -/
def queryOut0 (x0 : Vec F S512x1024 .f32) (x1 : Vec F S512x256 .bf16) (x2 : Vec F S512x512 .bf16) (x3 : Vec F S512x256 .f32) (x4 : Vec F S512x256 .f32) (x5 : Vec F S1x256 .f32) (x6 : Vec F S256x256 .bf16) (x7 : Vec F S1x256 .f32) (x8 : Vec F S1024x1024 .bf16) (x9 : Vec F S1x1024 .f32) (x10 : Vec F S1024x1024 .bf16) : FVec F S512x256 .bf16 :=
  k0_pay15 (k0_pay6 (View.ld x0 (Rect.unit (s := S512x1024) ![0, 0] S512x1024.size inb_S512x1024_S512x1024_0_0))) (k0_pay7 (View.ld x1 (Rect.unit (s := S512x256) ![0, 0] S512x256.size inb_S512x256_S512x256_0_0))) (k0_pay8 (View.ld x2 (Rect.unit (s := S512x512) ![0, 0] S512x512.size inb_S512x512_S512x512_0_0)))
    (k0_pay9 (View.ld x7 (Rect.unit (s := S1x256) ![0, 0] S1x256.size inb_S1x256_S1x256_0_0)))
    (k0_pay10 (View.ld x3 (Rect.unit (s := S512x256) ![0, 0] S512x256.size inb_S512x256_S512x256_0_0)) (View.ld x4 (Rect.unit (s := S512x256) ![0, 0] S512x256.size inb_S512x256_S512x256_0_0)) (View.ld x5 (Rect.unit (s := S1x256) ![0, 0] S1x256.size inb_S1x256_S1x256_0_0)))
    (k0_pay11 (View.ld x3 (Rect.unit (s := S512x256) ![0, 0] S512x256.size inb_S512x256_S512x256_0_0)) (View.ld x4 (Rect.unit (s := S512x256) ![0, 0] S512x256.size inb_S512x256_S512x256_0_0)) (View.ld x5 (Rect.unit (s := S1x256) ![0, 0] S1x256.size inb_S1x256_S1x256_0_0)))
    (k0_pay12 (View.ld x6 (Rect.unit (s := S256x256) ![0, 0] S256x256.size inb_S256x256_S256x256_0_0)))
    (View.ld x8 (Rect.unit (s := S1024x1024) ![0, 0] S256x1024.size inb_S1024x1024_S256x1024_0_0))
    (View.ld x8 (Rect.unit (s := S1024x1024) ![256, 0] S512x1024.size inb_S1024x1024_S512x1024_256_0))
    (View.ld x8 (Rect.unit (s := S1024x1024) ![768, 0] S256x1024.size inb_S1024x1024_S256x1024_768_0))
    (View.ld x9 (Rect.unit (s := S1x1024) ![0, 0] S1x1024.size inb_S1x1024_S1x1024_0_0)) (View.ld x10 (Rect.unit (s := S1024x1024) ![0, 0] S1024x1024.size inb_S1024x1024_S1024x1024_0_0))

/-- The new residual stream of one tile: after the projection and the four heads of cross attention. -/
def rowsOut (x0 : Vec F S512x1024 .f32) (x1 : Vec F S512x256 .bf16) (x2 : Vec F S512x512 .bf16) (x3 : Vec F S512x256 .f32) (x4 : Vec F S512x256 .f32) (x5 : Vec F S1x256 .f32) (x6 : Vec F S256x256 .bf16) (x7 : Vec F S1x256 .f32) (x8 : Vec F S1024x1024 .bf16) (x9 : Vec F S1x1024 .f32) (x10 : Vec F S1024x1024 .bf16) (x11 : Vec F S256x1024 .bf16) (x12 : Vec F S256x1024 .bf16) (x13 : Vec F S1024x1024 .bf16) : FVec F S512x1024 .f32 :=
  k0_pay21 (residOut x0 x1 x2 x3 x4 x5 x6 x7 x8) (queryOut x0 x1 x2 x3 x4 x5 x6 x7 x8 x9 x10)
    (k0_pay17 (queryOut0 x0 x1 x2 x3 x4 x5 x6 x7 x8 x9 x10) (k0_pay16 (View.ld x11 (Rect.unit (s := S256x1024) ![0, 0] S256x256.size inb_S256x1024_S256x256_0_0))) (View.ld x12 (Rect.unit (s := S256x1024) ![0, 0] S256x256.size inb_S256x1024_S256x256_0_0)))
    (k0_pay18 (queryOut x0 x1 x2 x3 x4 x5 x6 x7 x8 x9 x10) (View.ld x11 (Rect.unit (s := S256x1024) ![0, 256] S256x256.size inb_S256x1024_S256x256_0_256)) (View.ld x12 (Rect.unit (s := S256x1024) ![0, 256] S256x256.size inb_S256x1024_S256x256_0_256)))
    (k0_pay19 (queryOut x0 x1 x2 x3 x4 x5 x6 x7 x8 x9 x10) (View.ld x11 (Rect.unit (s := S256x1024) ![0, 512] S256x256.size inb_S256x1024_S256x256_0_512)))
    k0_pay20 (View.ld x12 (Rect.unit (s := S256x1024) ![0, 512] S256x256.size inb_S256x1024_S256x256_0_512))
    (View.ld x11 (Rect.unit (s := S256x1024) ![0, 768] S256x256.size inb_S256x1024_S256x256_0_768)) (View.ld x12 (Rect.unit (s := S256x1024) ![0, 768] S256x256.size inb_S256x1024_S256x256_0_768))
    (View.ld x13 (Rect.unit (s := S1024x1024) ![0, 0] S1024x1024.size inb_S1024x1024_S1024x1024_0_0))

/-- A tile of 512 rows of 1024 lanes laid out as 4096 rows of 128: row `8 r + j` is the `j`-th stretch of 128 lanes of
    row `r`. -/
def tiles (v : FVec F S512x1024 .f32) : Vec F S4096x128 .f32 := fun y =>
  v (ValueIdx.ix2 (n0 := 512) (n1 := 1024) ⟨(y 0).val / 8, by have := (y 0).isLt; change (y 0).val < 4096 at this; omega⟩
    ⟨(y 0).val % 8 * 128 + (y 1).val, by have := (y 1).isLt; change (y 1).val < 128 at this; omega⟩)

/-- Every eighth row from row `j` on: the rectangle of the `j`-th strided store. -/
abbrev eighth (j : ℕ) (hj : ∀ a, S512x128.size a = 0 ∨ (![j, 0] : Fin 2 → ℕ) a + (![8, 1] : Fin 2 → ℕ) a * (S512x128.size a - 1) < S4096x128.size a) : Rect S4096x128 :=
  ⟨⟨![j, 0], S512x128.size, ![8, 1], hj⟩, spos_8_1⟩

/-- Row `8 r + j` lies in the `j`-th store's rectangle. -/
theorem mem_eighth (j : ℕ) (hj) (y : S4096x128.Idx) (h : (y 0).val % 8 = j) : y ∈ (eighth j hj).set := by
  refine (LoadRect.mem_set _).mpr fun a => ?_
  have h0 := (y 0).isLt; change (y 0).val < 4096 at h0
  match a with
  | ⟨0, _⟩ => exact ⟨(y 0).val / 8, by change _ < 512; omega, by change (y 0).val = j + 8 * ((y 0).val / 8); omega⟩
  | ⟨1, _⟩ => exact ⟨(y 1).val, (y 1).isLt, by change (y 1).val = 0 + 1 * (y 1).val; omega⟩

/-- The `j`-th slice of 128 lanes is what `tiles` holds on the `j`-th store's rectangle. -/
theorem slice_eq_tiles (v : FVec F S512x1024 .f32) (j o : ℕ) (hlt : j < 8) (ho : o = 128 * j) (hj)
    (hs : S512x1024.Slices ![0, o] S512x128) (x : (eighth j hj).shape.Idx) :
    extractStridedSlice S512x128 ![0, o] v hs x = tiles v ((eighth j hj).emb x) := by
  subst ho
  have e0 : (((eighth j hj).emb x) 0).val = j + 8 * (x 0).val := Rect.emb_apply _ _ _
  have e1 : (((eighth j hj).emb x) 1).val = 0 + 1 * (x 1).val := Rect.emb_apply _ _ _
  refine extractStridedSlice_apply (s := S512x1024) (t := S512x128) _ v hs x _ fun a => ?_
  match a with
  | ⟨0, _⟩ => change (((eighth j hj).emb x) 0).val / 8 = 0 + (x 0).val; rw [e0]; omega
  | ⟨1, _⟩ =>
    change (((eighth j hj).emb x) 0).val % 8 * 128 + (((eighth j hj).emb x) 1).val = 128 * j + (x 1).val
    rw [e0, e1]; omega

/-- The eight strided stores' pieces, the last first. -/
abbrev tilePieces (p0 p1 p2 p3 p4 p5 p6 p7 : FVec F S512x128 .f32) : List (View.Piece (Elt F) S4096x128 .f32) :=
      [⟨eighth 7 inb_S4096x128_S512x128_7_0_s_8_1, p7⟩, ⟨eighth 6 inb_S4096x128_S512x128_6_0_s_8_1, p6⟩,
       ⟨eighth 5 inb_S4096x128_S512x128_5_0_s_8_1, p5⟩, ⟨eighth 4 inb_S4096x128_S512x128_4_0_s_8_1, p4⟩,
       ⟨eighth 3 inb_S4096x128_S512x128_3_0_s_8_1, p3⟩, ⟨eighth 2 inb_S4096x128_S512x128_2_0_s_8_1, p2⟩,
       ⟨eighth 1 inb_S4096x128_S512x128_1_0_s_8_1, p1⟩, ⟨eighth 0 inb_S4096x128_S512x128_0_0_s_8_1, p0⟩]

/-- The eight strided stores of the lanes of one tile leave it laid out in short rows. -/
theorem read_tiles (w : View sig .tc .vmem S4096x128 .f32) (f : w.ty.Contents (Elt F))
    (v : FVec F S512x1024 .f32) (p0 p1 p2 p3 p4 p5 p6 p7 : FVec F S512x128 .f32)
    (h0 : p0 = extractStridedSlice S512x128 ![0, 0] v slices_S512x1024_o0_0_S512x128)
    (h1 : p1 = extractStridedSlice S512x128 ![0, 128] v slices_S512x1024_o0_128_S512x128)
    (h2 : p2 = extractStridedSlice S512x128 ![0, 256] v slices_S512x1024_o0_256_S512x128)
    (h3 : p3 = extractStridedSlice S512x128 ![0, 384] v slices_S512x1024_o0_384_S512x128)
    (h4 : p4 = extractStridedSlice S512x128 ![0, 512] v slices_S512x1024_o0_512_S512x128)
    (h5 : p5 = extractStridedSlice S512x128 ![0, 640] v slices_S512x1024_o0_640_S512x128)
    (h6 : p6 = extractStridedSlice S512x128 ![0, 768] v slices_S512x1024_o0_768_S512x128)
    (h7 : p7 = extractStridedSlice S512x128 ![0, 896] v slices_S512x1024_o0_896_S512x128) :
    w.read (Elt F) (w.writes (Elt F) f
      (tilePieces p0 p1 p2 p3 p4 p5 p6 p7)) = tiles v := by
  have hcov : ∀ y : S4096x128.Idx, ∃ p ∈ tilePieces p0 p1 p2 p3 p4 p5 p6 p7, y ∈ p.1.set := fun y => by
    have hc : (y 0).val % 8 = 0 ∨ (y 0).val % 8 = 1 ∨ (y 0).val % 8 = 2 ∨ (y 0).val % 8 = 3 ∨ (y 0).val % 8 = 4 ∨
      (y 0).val % 8 = 5 ∨ (y 0).val % 8 = 6 ∨ (y 0).val % 8 = 7 := by omega
    rcases hc with h | h | h | h | h | h | h | h
    · exact ⟨_, (.tail _ (.tail _ (.tail _ (.tail _ (.tail _ (.tail _ (.tail _ (.head _)))))))), mem_eighth 0 inb_S4096x128_S512x128_0_0_s_8_1 y h⟩
    · exact ⟨_, (.tail _ (.tail _ (.tail _ (.tail _ (.tail _ (.tail _ (.head _))))))), mem_eighth 1 inb_S4096x128_S512x128_1_0_s_8_1 y h⟩
    · exact ⟨_, (.tail _ (.tail _ (.tail _ (.tail _ (.tail _ (.head _)))))), mem_eighth 2 inb_S4096x128_S512x128_2_0_s_8_1 y h⟩
    · exact ⟨_, (.tail _ (.tail _ (.tail _ (.tail _ (.head _))))), mem_eighth 3 inb_S4096x128_S512x128_3_0_s_8_1 y h⟩
    · exact ⟨_, (.tail _ (.tail _ (.tail _ (.head _)))), mem_eighth 4 inb_S4096x128_S512x128_4_0_s_8_1 y h⟩
    · exact ⟨_, (.tail _ (.tail _ (.head _))), mem_eighth 5 inb_S4096x128_S512x128_5_0_s_8_1 y h⟩
    · exact ⟨_, (.tail _ (.head _)), mem_eighth 6 inb_S4096x128_S512x128_6_0_s_8_1 y h⟩
    · exact ⟨_, (.head _), mem_eighth 7 inb_S4096x128_S512x128_7_0_s_8_1 y h⟩
  refine (View.read_writes_eq_canon w f _ hcov).trans (funext fun y => View.canon_apply_of_pieces (tiles v) _ ?_ y (hcov y))
  subst h0 h1 h2 h3 h4 h5 h6 h7
  exact List.forall_mem_cons.mpr ⟨fun x => slice_eq_tiles v 7 896 (by decide) rfl inb_S4096x128_S512x128_7_0_s_8_1 slices_S512x1024_o0_896_S512x128 x,
    List.forall_mem_cons.mpr ⟨fun x => slice_eq_tiles v 6 768 (by decide) rfl inb_S4096x128_S512x128_6_0_s_8_1 slices_S512x1024_o0_768_S512x128 x,
    List.forall_mem_cons.mpr ⟨fun x => slice_eq_tiles v 5 640 (by decide) rfl inb_S4096x128_S512x128_5_0_s_8_1 slices_S512x1024_o0_640_S512x128 x,
    List.forall_mem_cons.mpr ⟨fun x => slice_eq_tiles v 4 512 (by decide) rfl inb_S4096x128_S512x128_4_0_s_8_1 slices_S512x1024_o0_512_S512x128 x,
    List.forall_mem_cons.mpr ⟨fun x => slice_eq_tiles v 3 384 (by decide) rfl inb_S4096x128_S512x128_3_0_s_8_1 slices_S512x1024_o0_384_S512x128 x,
    List.forall_mem_cons.mpr ⟨fun x => slice_eq_tiles v 2 256 (by decide) rfl inb_S4096x128_S512x128_2_0_s_8_1 slices_S512x1024_o0_256_S512x128 x,
    List.forall_mem_cons.mpr ⟨fun x => slice_eq_tiles v 1 128 (by decide) rfl inb_S4096x128_S512x128_1_0_s_8_1 slices_S512x1024_o0_128_S512x128 x,
    List.forall_mem_cons.mpr ⟨fun x => slice_eq_tiles v 0 0 (by decide) rfl inb_S4096x128_S512x128_0_0_s_8_1 slices_S512x1024_o0_0_S512x128 x,
    fun _ h => absurd h List.not_mem_nil⟩⟩⟩⟩⟩⟩⟩⟩

end Cert.KernelIdeal.Hand

end
-- ==== Proof.Body.lean ====
module

public import proofs.«01_k».proof.Proof.Tile
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.ValueIdx
public import Idealize.ShloMosaic.Lib.Ring
public import Idealize.ShloMosaic.Lib.Tactic
public import Idealize.ShloMosaic.Lib.Tactic.Stretches
public import Idealize.ShloMosaic.Lib.WordCmp

/-! # The body of one grid point, run

On whole staging buffers the body leaves the laid-out new residual stream in its first output's buffer; what it leaves
in the routing outputs' buffers is not named here. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- ONE RUN OF THE BODY: on whole staging buffers, the inputs' at their contents and all the others' at anything, the
    body comes back with the inputs' as they were, the residual stream's output buffer at the laid-out new residual
    stream, and the routing outputs' and the carried count's at something. -/
theorem body_run (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1x128 .f32) (harg18 : arg18.IsWhole) (arg19 : Memref sig .tc .vmem S4096x128 .f32) (harg19 : arg19.IsWhole) (arg20 : Memref sig .tc .vmem S512x128 .f32) (harg20 : arg20.IsWhole) (arg21 : Memref sig .tc .vmem S8x512 .f32) (harg21 : arg21.IsWhole) (arg22 : Memref sig .tc .vmem S1x128 .f32) (harg22 : arg22.IsWhole) (arg23 : Memref sig .tc .vmem S1x128 .f32) (harg23 : arg23.IsWhole)
    (x0 : Vec F S512x1024 .f32) (x1 : Vec F S512x256 .bf16) (x2 : Vec F S512x512 .bf16) (x3 : Vec F S512x256 .f32) (x4 : Vec F S512x256 .f32) (x5 : Vec F S1x256 .f32) (x6 : Vec F S256x256 .bf16) (x7 : Vec F S1x256 .f32) (x8 : Vec F S1024x1024 .bf16) (x9 : Vec F S1x1024 .f32) (x10 : Vec F S1024x1024 .bf16) (x11 : Vec F S256x1024 .bf16) (x12 : Vec F S256x1024 .bf16) (x13 : Vec F S1024x1024 .bf16) (x14 : Vec F S1x1024 .f32) (x15 : Vec F S1024x128 .bf16) (x16 : Vec F S1024x128 .bf16) (x17 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (tiles (rowsOut x0 x1 x2 x3 x4 x5 x6 x7 x8 x9 x10 x11 x12 x13)) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  by_cases hc0 : (Scalar.cmpi .ne (Scalar.extui (Scalar.cmpi .eq (BitVec.ofNat 32 (i 0).val) 0#32)) 0#32) = 1#1
  all_goals
    simp only [cc0_post_mixer_eq_skeleton]; unfold cc0_post_mixer_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; rotate_left; · iexact H18
      ipureintro
      refine read_tiles arg19.view f18 (rowsOut x0 x1 x2 x3 x4 x5 x6 x7 x8 x9 x10 x11 x12 x13) _ _ _ _ _ _ _ _ ?_ ?_ ?_ ?_ ?_ ?_ ?_ ?_
      all_goals
        sl_open_run
        simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
        unfold rowsOut residOut queryOut queryOut0
        first | rfl | (sl_open_pay; rfl)
    isplitl [H19]
    · iexists _; iexists _; isplitr
      all_goals try iexact H19
      all_goals try (ipureintro; exact rfl)
    isplitl [H20]
    · iexists _; iexists _; isplitr
      all_goals try iexact H20
      all_goals try (ipureintro; exact rfl)
    isplitl [H21]
    · iexists _; iexists _; isplitr
      all_goals try iexact H21
      all_goals try (ipureintro; exact rfl)
    iexists _; iexists _; isplitr
    all_goals try iexact HS0
    all_goals try (ipureintro; exact rfl)

end Cert.KernelIdeal.Hand

end
-- ==== Proof.Run.lean ====
module

public import proofs.«01_k».proof.Proof.Body
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.ValueIdx
public import Idealize.ShloMosaic.Lib.Ring
public import Idealize.ShloMosaic.Lib.Tactic
public import Idealize.ShloMosaic.Lib.WordCmp

/-! # The whole run

Every grid point leaves the laid-out new residual stream of its tile in the first output's window. The three routing
outputs and the count carried from point to point are left open: the run says nothing of them. From this come the
kernel's frame and the final contents of the first output's array. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the run leaves open: the three routing outputs. -/
def openWin (w : Fin cfg0.W) : Bool := Nat.blt 18 w.val

/-- The new residual stream of the tile of point `t`, from the blocks of the arrays the region finds. -/
def rowsAt (c : Dev nD) (t : Fin cfg0.N) : FVec F S512x1024 .f32 :=
  rowsOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The proof data of the pipeline: the inputs' buffers keep their blocks, the first output's holds the laid-out new
    residual stream, and the invariant between points is the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => tiles (rowsAt m c t)
    | ⟨19, _⟩ => iblk m c 19 t
    | ⟨20, _⟩ => iblk m c 20 t
    | ⟨21, _⟩ => iblk m c 21 t
    | ⟨_ + 22, h⟩ => absurd h (Nat.not_lt.2 (Nat.le_add_left _ _))
  Φ _ := Pipeline.ΦA spec0 c
  q w := Pipeline.shareOf spec0 w
  owed _ := 0

/-- The data's arrays are those the region finds. -/
theorem A_eq (c : Dev nD) (w : Fin cfg0.W) : (dats m 0 c).A w = V m c (Pipeline.arrRef spec0 w) := by
  dsimp only [dats]

/-- The invariant between points: the count's scratch at anything, and the generator register. -/
theorem inv_eq (c : Dev nD) : (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The table's row for the pipeline's body is the body of that point. -/
theorem row_eq (t : Fin cfg0.N) : defs₀ (F := F) .tc cfg0.body (cfg0.bodyArgs t (cfg0.slots t)) = bodyAt0 t := by
  unfold defs₀; rw [Defs.onTc_tc]

set_option maxHeartbeats 4000000 in
/-- The body at any point, over the buffers the pipeline hands it. -/
theorem body_sound (c : Dev nD) (t : Fin cfg0.N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)) ∗ (∃ d, owns (c : Thread nD τ) (win0_16.stage (cfg0.slots t 16)) fullShare ((dats m 0 c).before 16 t d)) ∗ (∃ d, owns (c : Thread nD τ) (win0_17.stage (cfg0.slots t 17)) fullShare ((dats m 0 c).before 17 t d)) ∗ (∃ d, owns (c : Thread nD τ) (win0_18.stage (cfg0.slots t 18)) fullShare ((dats m 0 c).before 18 t d)) ∗ (∃ X, owns (c : Thread nD τ) (win0_19.stage (cfg0.slots t 19)) fullShare X) ∗ (∃ X, owns (c : Thread nD τ) (win0_20.stage (cfg0.slots t 20)) fullShare X) ∗ (∃ X, owns (c : Thread nD τ) (win0_21.stage (cfg0.slots t 21)) fullShare X))
      ⊢ wp frame (wpE (defs₀ (F := F)) Variants.none c none) Set.univ (bodyAt0 t)
          (fun _ => iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t) ∗ owns (c : Thread nD τ) (win0_15.stage (cfg0.slots t 15)) fullShare ((dats m 0 c).after 15 t) ∗ owns (c : Thread nD τ) (win0_16.stage (cfg0.slots t 16)) fullShare ((dats m 0 c).after 16 t) ∗ owns (c : Thread nD τ) (win0_17.stage (cfg0.slots t 17)) fullShare ((dats m 0 c).after 17 t) ∗ owns (c : Thread nD τ) (win0_18.stage (cfg0.slots t 18)) fullShare ((dats m 0 c).after 18 t) ∗ (∃ X, owns (c : Thread nD τ) (win0_19.stage (cfg0.slots t 19)) fullShare X) ∗ (∃ X, owns (c : Thread nD τ) (win0_20.stage (cfg0.slots t 20)) fullShare X) ∗ (∃ X, owns (c : Thread nD τ) (win0_21.stage (cfg0.slots t 21)) fullShare X))) := by
  unfold bodyAt0
  simp only [before0_0_of m (dats m 0 c) (A_eq m c 0) (fun _ => rfl) t, before0_1_of m (dats m 0 c) (A_eq m c 1) (fun _ => rfl) t, before0_2_of m (dats m 0 c) (A_eq m c 2) (fun _ => rfl) t, before0_3_of m (dats m 0 c) (A_eq m c 3) (fun _ => rfl) t, before0_4_of m (dats m 0 c) (A_eq m c 4) (fun _ => rfl) t, before0_5_of m (dats m 0 c) (A_eq m c 5) (fun _ => rfl) t, before0_6_of m (dats m 0 c) (A_eq m c 6) (fun _ => rfl) t, before0_7_of m (dats m 0 c) (A_eq m c 7) (fun _ => rfl) t, before0_8_of m (dats m 0 c) (A_eq m c 8) (fun _ => rfl) t, before0_9_of m (dats m 0 c) (A_eq m c 9) (fun _ => rfl) t, before0_10_of m (dats m 0 c) (A_eq m c 10) (fun _ => rfl) t, before0_11_of m (dats m 0 c) (A_eq m c 11) (fun _ => rfl) t, before0_12_of m (dats m 0 c) (A_eq m c 12) (fun _ => rfl) t, before0_13_of m (dats m 0 c) (A_eq m c 13) (fun _ => rfl) t, before0_14_of m (dats m 0 c) (A_eq m c 14) (fun _ => rfl) t, before0_15_of m (dats m 0 c) (A_eq m c 15) (fun _ => rfl) t, before0_16_of m (dats m 0 c) (A_eq m c 16) (fun _ => rfl) t, before0_17_of m (dats m 0 c) (A_eq m c 17) (fun _ => rfl) t]
  rw [show (dats m 0 c).owesAt () t.succ = (dats m 0 c).owesAt () t.castSucc from rfl,
    show (dats m 0 c).Φ t.castSucc = Pipeline.ΦA spec0 c from rfl,
    show (dats m 0 c).Φ t.succ = Pipeline.ΦA spec0 c from rfl, inv_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20, H21⟩
  iapply (body_run c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexact H19
  isplitl [H20]; · iexact H20
  isplitl [H21]; · iexact H21
  isplitl [HS]; · iexact HS
  iintro ⟨H0, H1, H2, H3, H4, H5, H6, H7, H8, H9, H10, H11, H12, H13, H14, H15, H16, H17, H18, H19, H20, H21, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body at every point, as the library asks for it. -/
theorem body_obligation (c : Dev nD) :
    BodyObligation (dats (F := F) m 0 c) (defs₀ (F := F)) Variants.none () Set.univ openWin := fun t => by
  rw [bigSep_W0, bigSep_W0, row_eq]
  exact triple_restated (body_sound m c t) rfl .rfl fun _ => .rfl

set_option backward.isDefEq.respectTransparency.types false in
/-- THE RUN: every argument buffer ends as it was found, the first output's array at its written-back blocks, and no
    counter is left raised. -/
theorem run_all : θ_run defs (onTc (τ := τ) (main (F := F))) (s₀ m ρ)
    (fun r => Pipeline.RDat.FramePost cfg0 (fun c => (dats m 0 c).toRForget openWin) (V m) r ∧ r.2.sem = fun _ => 0) :=
  Pipeline.θ_run_frame_forget_shared (Q' := _) cfgs (dats m) (0 : Fin 1) launch₀0 defs₀ Variants.none openWin m ρ main
    (hbody := fun c => (body_obligation m c).loose)
    (hq := fun _ _ _ => rfl) (howed := fun _ _ => rfl)
    (V := V m) (hmain := hmain m Variants.none) (hA := A_eq m) (hΦ := fun _ _ => rfl)

/-- THE FRAME: the run ends, with every argument array unchanged and no counter left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c)⟩, h.2⟩) (run_all m ρ)

end Cert.KernelIdeal.Hand

end
-- ==== Proof.Twin.lean ====
module

public import proofs.«01_k».proof.Defs
public import proofs.«01_k».proof.Proof.Gen.Kernel
public import proofs.«01_k».proof.Proof.Run
public import Idealize.ShloMosaic.Lib.Claim

/-! # The kernel's frame from its ideal twin's

The two programs have the same text. Their body tables are shown equal at the one label there is, and the run proved for the
one program is then the run of the other. -/

@[expose] public section

set_option maxHeartbeats 4000000
set_option maxRecDepth 8192

noncomputable section

namespace Cert.Proof

open Idealize.ShloMosaic Idealize.ShloMosaic.TcCoe Idealize.SL.Sem

/-- The table of the two programs' kernel functions is the same. -/
theorem table₀_same : @Cert.Kernel.defs₀ Bits _ Cert.Kernel.Gen.facts = @Cert.KernelIdeal.defs₀ Bits _ Cert.KernelIdeal.Gen.facts := by
  refine congrArg Defs.onTc (funext fun l => funext fun x => ?_)
  match l, x with
  | ⟨0, _⟩, (t, s) => rfl
  | ⟨_ + 1, h⟩, _ => exact absurd h (Nat.not_lt.2 (Nat.le_add_left _ _))

/-- So is the table with the pipelines' own bodies. -/
theorem table_same : @Cert.Kernel.defs Bits _ Cert.Kernel.Gen.facts = @Cert.KernelIdeal.defs Bits _ Cert.KernelIdeal.Gen.facts :=
  congrArg (Pipeline.defs Cert.KernelIdeal.pcfgs) table₀_same

/-- A run under one body table is a run under any table equal to it. -/
theorem run_at_table {D : Defs Cert.KernelIdeal.nD Cert.KernelIdeal.τ Cert.KernelIdeal.sig (Elt Bits) _} (hD : D = Cert.KernelIdeal.defs)
    {s : MemSt Cert.KernelIdeal.nD Cert.KernelIdeal.τ Cert.KernelIdeal.sig (Elt Bits)} {Q}
    (h : θ_run (Cert.KernelIdeal.defs (F := Bits)) (onTc (τ := Cert.KernelIdeal.τ) (Cert.KernelIdeal.main (F := Bits))) s Q) :
    θ_run D (onTc (τ := Cert.KernelIdeal.τ) (Cert.KernelIdeal.main (F := Bits))) s Q := by
  rw [hD]
  exact h

/-- The kernel as written runs to its end, its arguments unchanged and every semaphore counter back at zero. -/
theorem frame_kernel : Cert.quiescent_Kernel (hKernel := Cert.Kernel.Gen.facts) := fun m ρ _ =>
  run_at_table (D := Cert.Kernel.defs (F := Bits)) table_same (Cert.KernelIdeal.Hand.frame (F := Bits) m ρ)

end Cert.Proof

end
-- ==== Proof.Rows.lean ====
module

public import proofs.«01_k».proof.Proof.Math
public import proofs.«01_k».proof.Proof.Tile
public import proofs.«01_k».proof.Proof.Gen.KernelIdeal.Skeleton
public import Idealize.ShloMosaic.Lib.Pointwise

/-! # A tile's row is a token

What one grid point computes, read at row `r` and lane `c` over the extended reals, is the mathematics of one token
(`Cert.Math`) on row `r` of the tile's blocks. -/

@[expose] public section

set_option maxRecDepth 16384

noncomputable section

namespace Cert.KernelIdeal.Hand

open Cert.KernelIdeal Cert.KernelIdeal.Gen
open Idealize.ShloMosaic Idealize.ShloMosaic.TcCoe Idealize.SL.Sem

theorem pay10_at (y u : FVec Ideal S512x256 .f32) (D : FVec Ideal S1x256 .f32) (r : Fin 512) (k : Fin 256) :
    k0_pay10 (F := Ideal) y u D (ix2 r k) = Math.gelu (y (ix2 r k) + D (ix2 0 k) * u (ix2 r k)) := by
  pointwise [k0_pay10, Math.gelu]

theorem pay13_at (h : FVec Ideal S512x1024 .f32) (a : FVec Ideal S512x256 .bf16) (b : FVec Ideal S512x512 .bf16)
    (bg : FVec Ideal S1x256 .f32) (g : FVec Ideal S512x256 .f32) (g' : FVec Ideal S512x256 .bf16) (wg : FVec Ideal S256x256 .bf16)
    (w1 : FVec Ideal S256x1024 .bf16) (w2 : FVec Ideal S512x1024 .bf16) (w3 : FVec Ideal S256x1024 .bf16)
    (r : Fin 512) (c : Fin 1024) :
    k0_pay13 (F := Ideal) h a b bg g g' wg w1 w2 w3 (ix2 r c)
      = h (ix2 r c) + ((∑ k : Fin 256, a (ix2 r k) * w1 (ix2 k c)) + (∑ k : Fin 512, b (ix2 r k) * w2 (ix2 k c))
        + ∑ k : Fin 256, (g (ix2 r k) * Ideal.logistic ((∑ j : Fin 256, g' (ix2 r j) * wg (ix2 j k)) + bg (ix2 0 k))) * w3 (ix2 k c)) := by
  pointwise [k0_pay13]

theorem pay17_at (q : FVec Ideal S512x256 .bf16) (K V : FVec Ideal S256x256 .bf16) (r : Fin 512) (d : Fin 256) :
    k0_pay17 (F := Ideal) q K V (ix2 r d)
      = Math.meanLate (fun p => (∑ e : Fin 256, q (ix2 r e) * K (ix2 p e)) * Ideal.ofBits .f32 0x3D800000#32) (fun p => V (ix2 p d)) := by
  pointwise [k0_pay17, Math.meanLate, Math.top]

theorem pay18_at (q : FVec Ideal S512x1024 .bf16) (K V : FVec Ideal S256x256 .bf16) (r : Fin 512) (d : Fin 256) :
    k0_pay18 (F := Ideal) q K V (ix2 r d)
      = Math.meanLate (fun p => (∑ e : Fin 256, q (ix2 r ⟨256 + e.val, by omega⟩) * K (ix2 p e)) * Ideal.ofBits .f32 0x3D800000#32) (fun p => V (ix2 p d)) := by
  pointwise [k0_pay18, Math.meanLate, Math.top]

theorem pay21_at (x : FVec Ideal S512x1024 .f32) (q : FVec Ideal S512x1024 .bf16) (o0 o1 : FVec Ideal S512x256 .f32)
    (K2 V2 K3 V3 : FVec Ideal S256x256 .bf16) (w : FVec Ideal S1024x1024 .bf16) (r : Fin 512) (c : Fin 1024)
    (o : Fin 1024 → EReal)
    (h0 : ∀ d : Fin 256, o0 (ix2 r d) = o ⟨d.val, by omega⟩) (h1 : ∀ d : Fin 256, o1 (ix2 r d) = o ⟨256 + d.val, by omega⟩)
    (h2 : ∀ d : Fin 256, Math.meanLate (fun p => (∑ e : Fin 256, q (ix2 r ⟨512 + e.val, by omega⟩) * K2 (ix2 p e)) * Ideal.ofBits .f32 0x3D800000#32) (fun p => V2 (ix2 p d))
      = o ⟨512 + d.val, by omega⟩)
    (h3 : ∀ d : Fin 256, Math.meanLate (fun p => (∑ e : Fin 256, q (ix2 r ⟨768 + e.val, by omega⟩) * K3 (ix2 p e)) * Ideal.ofBits .f32 0x3D800000#32) (fun p => V3 (ix2 p d))
      = o ⟨768 + d.val, by omega⟩) :
    k0_pay21 (F := Ideal) x q o0 o1 (k0_pay19 q K2) k0_pay20 V2 K3 V3 w (ix2 r c)
      = Math.added (fun c => x (ix2 r c)) o (fun e c => w (ix2 e c)) c := by
  unfold Math.meanLate Math.top at h2 h3
  pointwise [k0_pay21, k0_pay19, k0_pay20, Math.added]
  refine congrArg₂ (· + ·) rfl (Finset.sum_congr rfl fun e _ => congrArg₂ (· * ·) ?_ rfl)
  by_cases e0 : e.val < 256
  · rw [dif_pos e0, h0]
  rw [dif_neg e0]
  by_cases e1 : e.val - 256 < 256
  · rw [dif_pos e1, h1]; exact congrArg o (Fin.ext (by change 256 + (e.val - 256) = e.val; omega))
  rw [dif_neg e1]
  by_cases e2 : e.val - 256 - 256 < 256
  · rw [dif_pos e2]; refine (h2 ⟨e.val - 256 - 256, e2⟩).trans (congrArg o (Fin.ext ?_))
    change 512 + (e.val - 256 - 256) = e.val; omega
  rw [dif_neg e2]
  refine (h3 ⟨e.val - 256 - 256 - 256, by omega⟩).trans (congrArg o (Fin.ext ?_))
  change 768 + (e.val - 256 - 256 - 256) = e.val; omega

/-- The mixed residual stream of a tile, read at a row. -/
theorem residOut_at (x0 : FVec Ideal S512x1024 .f32) (x1 : FVec Ideal S512x256 .bf16) (x2 : FVec Ideal S512x512 .bf16) (x3 : FVec Ideal S512x256 .f32) (x4 : FVec Ideal S512x256 .f32) (x5 : FVec Ideal S1x256 .f32) (x6 : FVec Ideal S256x256 .bf16) (x7 : FVec Ideal S1x256 .f32) (x8 : FVec Ideal S1024x1024 .bf16) (r : Fin 512) (c : Fin 1024) :
    residOut (F := Ideal) x0 x1 x2 x3 x4 x5 x6 x7 x8 (ix2 r c) = (Math.stream (fun c => x0 (ix2 r c)) (fun k => x1 (ix2 r k)) (fun k => x2 (ix2 r k)) (fun k => x3 (ix2 r k))
      (fun k => x4 (ix2 r k)) (fun k => x5 (ix2 0 k)) (fun j k => x6 (ix2 j k)) (fun k => x7 (ix2 0 k)) (fun a b => x8 (ix2 a b))) c := by
  unfold residOut
  rw [pay13_at]
  pointwise [k0_pay6, k0_pay7, k0_pay8, k0_pay9, k0_pay11, k0_pay12, pay10_at, Math.stream, Math.mixed, Math.gated]

/-- The queries of a tile, read at a row. -/
theorem queryOut_at (x0 : FVec Ideal S512x1024 .f32) (x1 : FVec Ideal S512x256 .bf16) (x2 : FVec Ideal S512x512 .bf16) (x3 : FVec Ideal S512x256 .f32) (x4 : FVec Ideal S512x256 .f32) (x5 : FVec Ideal S1x256 .f32) (x6 : FVec Ideal S256x256 .bf16) (x7 : FVec Ideal S1x256 .f32) (x8 : FVec Ideal S1024x1024 .bf16) (x9 : FVec Ideal S1x1024 .f32) (x10 : FVec Ideal S1024x1024 .bf16) (r : Fin 512) (c : Fin 1024) :
    queryOut (F := Ideal) x0 x1 x2 x3 x4 x5 x6 x7 x8 x9 x10 (ix2 r c)
      = (Math.proj (Math.normed (Math.stream (fun c => x0 (ix2 r c)) (fun k => x1 (ix2 r k)) (fun k => x2 (ix2 r k)) (fun k => x3 (ix2 r k))
      (fun k => x4 (ix2 r k)) (fun k => x5 (ix2 0 k)) (fun j k => x6 (ix2 j k)) (fun k => x7 (ix2 0 k)) (fun a b => x8 (ix2 a b))) (fun c => x9 (ix2 0 c))) (fun a b => x10 (ix2 a b))) c := by
  have hr : ∀ c, residOut (F := Ideal) x0 x1 x2 x3 x4 x5 x6 x7 x8 (ix2 r c) = (Math.stream (fun c => x0 (ix2 r c)) (fun k => x1 (ix2 r k)) (fun k => x2 (ix2 r k)) (fun k => x3 (ix2 r k))
      (fun k => x4 (ix2 r k)) (fun k => x5 (ix2 0 k)) (fun j k => x6 (ix2 j k)) (fun k => x7 (ix2 0 k)) (fun a b => x8 (ix2 a b))) c := residOut_at x0 x1 x2 x3 x4 x5 x6 x7 x8 r
  unfold residOut at hr
  unfold queryOut
  pointwise [k0_pay14, Math.proj, Math.normed, hr]

/-- The first head's queries are the first 256 lanes of all queries. -/
theorem queryOut0_at (x0 : FVec Ideal S512x1024 .f32) (x1 : FVec Ideal S512x256 .bf16) (x2 : FVec Ideal S512x512 .bf16) (x3 : FVec Ideal S512x256 .f32) (x4 : FVec Ideal S512x256 .f32) (x5 : FVec Ideal S1x256 .f32) (x6 : FVec Ideal S256x256 .bf16) (x7 : FVec Ideal S1x256 .f32) (x8 : FVec Ideal S1024x1024 .bf16) (x9 : FVec Ideal S1x1024 .f32) (x10 : FVec Ideal S1024x1024 .bf16) (r : Fin 512) (d : Fin 256) :
    queryOut0 (F := Ideal) x0 x1 x2 x3 x4 x5 x6 x7 x8 x9 x10 (ix2 r d) = queryOut (F := Ideal) x0 x1 x2 x3 x4 x5 x6 x7 x8 x9 x10 (ix2 r ⟨d.val, by omega⟩) := by
  unfold queryOut0 queryOut
  pointwise [k0_pay15]

/-- A tile's rows: row `r` is the token's residual stream with the attended values projected and added. -/
theorem rowsOut_at (x0 : FVec Ideal S512x1024 .f32) (x1 : FVec Ideal S512x256 .bf16) (x2 : FVec Ideal S512x512 .bf16) (x3 : FVec Ideal S512x256 .f32) (x4 : FVec Ideal S512x256 .f32) (x5 : FVec Ideal S1x256 .f32) (x6 : FVec Ideal S256x256 .bf16) (x7 : FVec Ideal S1x256 .f32) (x8 : FVec Ideal S1024x1024 .bf16) (x9 : FVec Ideal S1x1024 .f32) (x10 : FVec Ideal S1024x1024 .bf16) (x11 : FVec Ideal S256x1024 .bf16) (x12 : FVec Ideal S256x1024 .bf16) (x13 : FVec Ideal S1024x1024 .bf16) (r : Fin 512) (c : Fin 1024) :
    rowsOut (F := Ideal) x0 x1 x2 x3 x4 x5 x6 x7 x8 x9 x10 x11 x12 x13 (ix2 r c)
      = Math.added (Math.stream (fun c => x0 (ix2 r c)) (fun k => x1 (ix2 r k)) (fun k => x2 (ix2 r k)) (fun k => x3 (ix2 r k))
      (fun k => x4 (ix2 r k)) (fun k => x5 (ix2 0 k)) (fun j k => x6 (ix2 j k)) (fun k => x7 (ix2 0 k)) (fun a b => x8 (ix2 a b))) (Math.attendLate (Math.stream (fun c => x0 (ix2 r c)) (fun k => x1 (ix2 r k)) (fun k => x2 (ix2 r k)) (fun k => x3 (ix2 r k))
      (fun k => x4 (ix2 r k)) (fun k => x5 (ix2 0 k)) (fun j k => x6 (ix2 j k)) (fun k => x7 (ix2 0 k)) (fun a b => x8 (ix2 a b))) (fun c => x9 (ix2 0 c)) (fun a b => x10 (ix2 a b))
          (fun p e => x11 (ix2 p e)) (fun p e => x12 (ix2 p e))) (fun e c => x13 (ix2 e c)) c := by
  have hr : (fun c => residOut (F := Ideal) x0 x1 x2 x3 x4 x5 x6 x7 x8 (ix2 r c)) = (Math.stream (fun c => x0 (ix2 r c)) (fun k => x1 (ix2 r k)) (fun k => x2 (ix2 r k)) (fun k => x3 (ix2 r k))
      (fun k => x4 (ix2 r k)) (fun k => x5 (ix2 0 k)) (fun j k => x6 (ix2 j k)) (fun k => x7 (ix2 0 k)) (fun a b => x8 (ix2 a b))) := funext (residOut_at x0 x1 x2 x3 x4 x5 x6 x7 x8 r)
  have hq : ∀ e, queryOut (F := Ideal) x0 x1 x2 x3 x4 x5 x6 x7 x8 x9 x10 (ix2 r e) = _ := queryOut_at x0 x1 x2 x3 x4 x5 x6 x7 x8 x9 x10 r
  rw [← hr]; rw [← hr] at hq
  unfold rowsOut
  have key : ∀ (i : ℕ) (hi : i < 4) (d : Fin 256) (e : Fin 1024), e.val = 256 * i + d.val →
      Math.attendLate (fun c => residOut (F := Ideal) x0 x1 x2 x3 x4 x5 x6 x7 x8 (ix2 r c)) (fun c => x9 (ix2 0 c)) (fun a b => x10 (ix2 a b))
          (fun p e => x11 (ix2 p e)) (fun p e => x12 (ix2 p e)) e
        = Math.meanLate (Math.score (fun e => queryOut (F := Ideal) x0 x1 x2 x3 x4 x5 x6 x7 x8 x9 x10 (ix2 r e)) (fun p e => x11 (ix2 p e)) ⟨i, hi⟩)
            (fun p => x12 (ix2 p e)) := fun i hi d e he => by
    have hh : Math.head e = ⟨i, hi⟩ := Fin.ext (by change e.val / 256 = i; omega)
    unfold Math.attendLate
    rw [hh, funext hq]
  refine (pay21_at _ _ _ _ _ _ _ _ _ r c (Math.attendLate (fun c => residOut (F := Ideal) x0 x1 x2 x3 x4 x5 x6 x7 x8 (ix2 r c)) (fun c => x9 (ix2 0 c)) (fun a b => x10 (ix2 a b))
          (fun p e => x11 (ix2 p e)) (fun p e => x12 (ix2 p e))) ?_ ?_ ?_ ?_).trans ?_
  · intro d
    rw [pay17_at, key 0 (by omega) d _ (by change d.val = 256 * 0 + d.val; omega)]
    refine congrArg₂ Math.meanLate (funext fun p => ?_) (funext fun p => ?_)
    · simp only [Math.score, queryOut0_at]
      pointwise [k0_pay16]
    · pointwise
  · intro d
    rw [pay18_at, key 1 (by omega) d _ (by change 256 + d.val = 256 * 1 + d.val; omega)]
    refine congrArg₂ Math.meanLate (funext fun p => ?_) (funext fun p => ?_)
    · simp only [Math.score]
      pointwise
    · pointwise
  · intro d
    rw [key 2 (by omega) d _ (by change 512 + d.val = 256 * 2 + d.val; omega)]
    refine congrArg₂ Math.meanLate (funext fun p => ?_) (funext fun p => ?_)
    · simp only [Math.score]
      pointwise
    · pointwise
  · intro d
    rw [key 3 (by omega) d _ (by change 768 + d.val = 256 * 3 + d.val; omega)]
    refine congrArg₂ Math.meanLate (funext fun p => ?_) (funext fun p => ?_)
    · simp only [Math.score]
      pointwise
    · pointwise
  · unfold Math.added
    pointwise

end Cert.KernelIdeal.Hand

end
-- ==== Proof.Result.lean ====
module

public import proofs.«01_k».proof.Proof.Run
public import proofs.«01_k».proof.Proof.Rows
public import Idealize.ShloMosaic.Lib.Pipeline.ValueKit
public import Idealize.ShloMosaic.Lib.Claim

/-! # What the first output's array holds after the run -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window the new residual stream depends on holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val / 8, 0] ∧ win0_12.index t = ![t.val / 8, 1] ∧ win0_13.index t = ![0, 0]
    ∧ win0_18.index t = ![t.val, 0] ∧ t.val < 64 :=
  (by decide +kernel : ∀ t : Fin grid0.N, _)

/-- The mixed stream of equal rows. -/
theorem stream_congr {h h' : Fin 1024 → EReal} {r r' : Fin 256 → EReal} {n n' : Fin 512 → EReal} {y y' u u' D D' : Fin 256 → EReal}
    {wg wg' : Fin 256 → Fin 256 → EReal} {bg bg' : Fin 256 → EReal} {w w' : Fin 1024 → Fin 1024 → EReal}
    (e0 : h = h') (e1 : r = r') (e2 : n = n') (e3 : y = y') (e4 : u = u') (e5 : D = D') (e6 : wg = wg') (e7 : bg = bg') (e8 : w = w') :
    Math.stream h r n y u D wg bg w = Math.stream h' r' n' y' u' D' wg' bg' w' := by
  subst e0 e1 e2 e3 e4 e5 e6 e7 e8; rfl

/-- The new stream of equal rows. -/
theorem added_congr {x x' g g' : Fin 1024 → EReal} {wq wq' : Fin 1024 → Fin 1024 → EReal} {K K' V V' : Fin 256 → Fin 1024 → EReal}
    {wo wo' : Fin 1024 → Fin 1024 → EReal} (e0 : x = x') (e1 : g = g') (e2 : wq = wq') (e3 : K = K') (e4 : V = V') (e5 : wo = wo')
    (l : Fin 1024) : Math.added x (Math.attendLate x g wq K V) wo l = Math.added x' (Math.attendLate x' g' wq' K' V') wo' l := by
  subst e0 e1 e2 e3 e4 e5; rfl

/-- Row `r` of the tile of the incoming residual stream is token `s` of sequence `b`. -/
theorem blk0 (c : Dev nD) (t : Fin cfg0.N) (b : Fin 8) (s : Fin 4096) (r : Fin 512) (h : t.val * 512 + r.val = b.val * 4096 + s.val) (k : Fin 1024) :
    (show FVec Ideal S512x1024 .f32 from iblk m c 0 t) (ix2 r k) = m ((c : Thread nD τ).loc main_arg0) (ix3 b s k) := by
  blk_point [iblk, V, idx t]

/-- The same of the retention branch. -/
theorem blk1 (c : Dev nD) (t : Fin cfg0.N) (b : Fin 8) (s : Fin 4096) (r : Fin 512) (h : t.val * 512 + r.val = b.val * 4096 + s.val) (k : Fin 256) :
    (show FVec Ideal S512x256 .bf16 from iblk m c 1 t) (ix2 r k) = m ((c : Thread nD τ).loc main_arg1) (ix3 b s k) := by
  blk_point [iblk, V, idx t]

/-- The same of the second branch. -/
theorem blk2 (c : Dev nD) (t : Fin cfg0.N) (b : Fin 8) (s : Fin 4096) (r : Fin 512) (h : t.val * 512 + r.val = b.val * 4096 + s.val) (k : Fin 512) :
    (show FVec Ideal S512x512 .bf16 from iblk m c 2 t) (ix2 r k) = m ((c : Thread nD τ).loc main_arg2) (ix3 b s k) := by
  blk_point [iblk, V, idx t]

/-- The same of the state-space branch. -/
theorem blk3 (c : Dev nD) (t : Fin cfg0.N) (b : Fin 8) (s : Fin 4096) (r : Fin 512) (h : t.val * 512 + r.val = b.val * 4096 + s.val) (k : Fin 256) :
    (show FVec Ideal S512x256 .f32 from iblk m c 3 t) (ix2 r k) = m ((c : Thread nD τ).loc main_arg3) (ix3 b s k) := by
  blk_point [iblk, V, idx t]

/-- The same of the state-space branch's input. -/
theorem blk4 (c : Dev nD) (t : Fin cfg0.N) (b : Fin 8) (s : Fin 4096) (r : Fin 512) (h : t.val * 512 + r.val = b.val * 4096 + s.val) (k : Fin 256) :
    (show FVec Ideal S512x256 .f32 from iblk m c 4 t) (ix2 r k) = m ((c : Thread nD τ).loc main_arg4) (ix3 b s k) := by
  blk_point [iblk, V, idx t]

/-- The one row of window 5 is its argument. -/
theorem blk5 (c : Dev nD) (t : Fin cfg0.N) (k : Fin 256) :
    (show FVec Ideal S1x256 .f32 from iblk m c 5 t) (ix2 0 k) = m ((c : Thread nD τ).loc main_arg5) (ix1 k) := by
  blk_point [iblk, V, idx t]

/-- Window 6 holds its whole matrix. -/
theorem blk6 (c : Dev nD) (t : Fin cfg0.N) (a b : Fin 256) :
    (show FVec Ideal S256x256 .bf16 from iblk m c 6 t) (ix2 a b) = m ((c : Thread nD τ).loc main_arg6) (ix2 a b) := by
  blk_point [iblk, V, idx t]

/-- The one row of window 7 is its argument. -/
theorem blk7 (c : Dev nD) (t : Fin cfg0.N) (k : Fin 256) :
    (show FVec Ideal S1x256 .f32 from iblk m c 7 t) (ix2 0 k) = m ((c : Thread nD τ).loc main_arg7) (ix1 k) := by
  blk_point [iblk, V, idx t]

/-- Window 8 holds its whole matrix. -/
theorem blk8 (c : Dev nD) (t : Fin cfg0.N) (a b : Fin 1024) :
    (show FVec Ideal S1024x1024 .bf16 from iblk m c 8 t) (ix2 a b) = m ((c : Thread nD τ).loc main_arg8) (ix2 a b) := by
  blk_point [iblk, V, idx t]

/-- The one row of window 9 is its argument. -/
theorem blk9 (c : Dev nD) (t : Fin cfg0.N) (k : Fin 1024) :
    (show FVec Ideal S1x1024 .f32 from iblk m c 9 t) (ix2 0 k) = m ((c : Thread nD τ).loc main_arg9) (ix1 k) := by
  blk_point [iblk, V, idx t]

/-- Window 10 holds its whole matrix. -/
theorem blk10 (c : Dev nD) (t : Fin cfg0.N) (a b : Fin 1024) :
    (show FVec Ideal S1024x1024 .bf16 from iblk m c 10 t) (ix2 a b) = m ((c : Thread nD τ).loc main_arg12) (ix2 a b) := by
  blk_point [iblk, V, idx t]

/-- Position `p` of sequence `b` in the packed keys and values: its first 1024 lanes are the keys. -/
theorem keys_at (c : Dev nD) (i : S2048x2048.Idx) (b : Fin 8) (p : Fin 256) (e : Fin 1024) (h0 : (i 0).val = b.val * 256 + p.val)
    (h1 : (i 1).val = e.val) : (show FVec Ideal S2048x2048 .bf16 from V m c main_v3) i = m ((c : Thread nD τ).loc main_arg10) (ix3 b p e) := by
  entry_read
  pointwise
  rw [dif_pos (by omega)]
  blk_ext []

/-- Its last 1024 lanes are the values. -/
theorem values_at (c : Dev nD) (i : S2048x2048.Idx) (b : Fin 8) (p : Fin 256) (e : Fin 1024) (h0 : (i 0).val = b.val * 256 + p.val)
    (h1 : (i 1).val = 1024 + e.val) : (show FVec Ideal S2048x2048 .bf16 from V m c main_v3) i = m ((c : Thread nD τ).loc main_arg11) (ix3 b p e) := by
  entry_read
  pointwise
  rw [dif_neg (by omega)]
  blk_ext []

/-- Window 11 holds the keys of the tile's sequence. -/
theorem blk11 (c : Dev nD) (t : Fin cfg0.N) (b : Fin 8) (hb : b.val = t.val / 8) (p : Fin 256) (e : Fin 1024) :
    (show FVec Ideal S256x1024 .bf16 from iblk m c 11 t) (ix2 p e) = m ((c : Thread nD τ).loc main_arg10) (ix3 b p e) := by
  have h0 : ((((cfg0.win 11).blk t).view.emb (ix2 p e)) 0).val = b.val * 256 + p.val := by rw [hb]; blk_simp [idx t]
  have h1 : ((((cfg0.win 11).blk t).view.emb (ix2 p e)) 1).val = e.val := by blk_simp [idx t]
  blk_simp [iblk]
  exact keys_at m c _ b p e h0 h1

/-- Window 12 holds the values of the tile's sequence. -/
theorem blk12 (c : Dev nD) (t : Fin cfg0.N) (b : Fin 8) (hb : b.val = t.val / 8) (p : Fin 256) (e : Fin 1024) :
    (show FVec Ideal S256x1024 .bf16 from iblk m c 12 t) (ix2 p e) = m ((c : Thread nD τ).loc main_arg11) (ix3 b p e) := by
  have h0 : ((((cfg0.win 12).blk t).view.emb (ix2 p e)) 0).val = b.val * 256 + p.val := by rw [hb]; blk_simp [idx t]
  have h1 : ((((cfg0.win 12).blk t).view.emb (ix2 p e)) 1).val = 1024 + e.val := by blk_simp [idx t]
  blk_simp [iblk]
  exact values_at m c _ b p e h0 h1

/-- Window 13 holds its whole matrix. -/
theorem blk13 (c : Dev nD) (t : Fin cfg0.N) (a b : Fin 1024) :
    (show FVec Ideal S1024x1024 .bf16 from iblk m c 13 t) (ix2 a b) = m ((c : Thread nD τ).loc main_arg13) (ix2 a b) := by
  blk_point [iblk, V, idx t]

/-- The residual stream of token `s` of sequence `b` after the output projection, from the argument arrays. -/
def streamAt (c : Dev nD) (b : Fin 8) (s : Fin 4096) : Fin 1024 → EReal :=
  Math.stream (fun k => m ((c : Thread nD τ).loc main_arg0) (ix3 b s k)) (fun k => m ((c : Thread nD τ).loc main_arg1) (ix3 b s k))
    (fun k => m ((c : Thread nD τ).loc main_arg2) (ix3 b s k)) (fun k => m ((c : Thread nD τ).loc main_arg3) (ix3 b s k))
    (fun k => m ((c : Thread nD τ).loc main_arg4) (ix3 b s k)) (fun k => m ((c : Thread nD τ).loc main_arg5) (ix1 k))
    (fun j k => m ((c : Thread nD τ).loc main_arg6) (ix2 j k)) (fun k => m ((c : Thread nD τ).loc main_arg7) (ix1 k))
    (fun i k => m ((c : Thread nD τ).loc main_arg8) (ix2 i k))

/-- The new residual stream of token `s` of sequence `b`, lane `l`, from the argument arrays. -/
def newAt (c : Dev nD) (b : Fin 8) (s : Fin 4096) (l : Fin 1024) : EReal :=
  Math.added (streamAt m c b s)
    (Math.attendLate (streamAt m c b s) (fun k => m ((c : Thread nD τ).loc main_arg9) (ix1 k)) (fun i k => m ((c : Thread nD τ).loc main_arg12) (ix2 i k))
      (fun p e => m ((c : Thread nD τ).loc main_arg10) (ix3 b p e)) (fun p e => m ((c : Thread nD τ).loc main_arg11) (ix3 b p e)))
    (fun e k => m ((c : Thread nD τ).loc main_arg13) (ix2 e k)) l

set_option maxHeartbeats 1000000 in
/-- Row `r` of the tile of point `t`, which is token `s` of sequence `b`. -/
theorem row_at (c : Dev nD) (t : Fin cfg0.N) (b : Fin 8) (s : Fin 4096) (r : Fin 512) (l : Fin 1024)
    (h : t.val * 512 + r.val = b.val * 4096 + s.val) : rowsAt m c t (ix2 r l) = newAt m c b s l := by
  have hb : b.val = t.val / 8 := by have := r.isLt; have := s.isLt; omega
  have e0 := funext (blk0 m c t b s r h)
  have e1 := funext (blk1 m c t b s r h)
  have e2 := funext (blk2 m c t b s r h)
  have e3 := funext (blk3 m c t b s r h)
  have e4 := funext (blk4 m c t b s r h)
  have e5 := funext (blk5 m c t)
  have e6 := funext fun a => funext (blk6 m c t a)
  have e7 := funext (blk7 m c t)
  have e8 := funext fun a => funext (blk8 m c t a)
  have e9 := funext (blk9 m c t)
  have e10 := funext fun a => funext (blk10 m c t a)
  have e11 := funext fun a => funext (blk11 m c t b hb a)
  have e12 := funext fun a => funext (blk12 m c t b hb a)
  have e13 := funext fun a => funext (blk13 m c t a)
  unfold rowsAt newAt streamAt
  refine (rowsOut_at _ _ _ _ _ _ _ _ _ _ _ _ _ _ r l).trans ?_
  have key := stream_congr e0 e1 e2 e3 e4 e5 e6 e7 e8
  exact added_congr key e9 e10 e11 e12 e13 l

/-- The first output's array after the run. -/
def resultOf (c : Dev nD) : FVec Ideal S262144x128 .f32 := fun y =>
  newAt m c ⟨(y 0).val / 8 / 4096, by have := (y 0).isLt; change (y 0).val < 262144 at this; omega⟩
    ⟨(y 0).val / 8 % 4096, by omega⟩
    ⟨(y 0).val % 8 * 128 + (y 1).val, by have := (y 1).isLt; change (y 1).val < 128 at this; omega⟩

/-- The blocks written back are the result's. -/
theorem final (c : Dev nD) : (dats m 0 c).arrAt 18 (cfgs 0).N = resultOf m c := by
  refine (dats m 0 c).arrAt_eq_of_covers 18 _ (by decide +kernel) fun t hf y => ?_
  blk_simp
  have ht := (idx t).2.2.2.2.2.2.2.2.2.2.2.2.2.2.2
  have e0 : (((cfg0.win 18).blk t).view.emb y 0).val = t.val * 4096 + (y 0).val := by blk_simp [idx t]
  have e1 : (((cfg0.win 18).blk t).view.emb y 1).val = (y 1).val := by blk_simp [idx t]
  have h0 := (y 0).isLt; change (y 0).val < 4096 at h0
  have h1 := (y 1).isLt; change (y 1).val < 128 at h1
  change tiles (rowsAt m c t) y = resultOf m c (((cfg0.win 18).blk t).view.emb y)
  unfold tiles resultOf
  generalize ((cfg0.win 18).blk t).view.emb y = i at e0 e1
  refine (row_at m c t ⟨(i 0).val / 8 / 4096, by omega⟩ ⟨(i 0).val / 8 % 4096, by omega⟩ _ _ ?_).trans
    (congrArg _ (Fin.ext ?_))
  · change t.val * 512 + (y 0).val / 8 = (i 0).val / 8 / 4096 * 4096 + (i 0).val / 8 % 4096
    omega
  · change (y 0).val % 8 * 128 + (y 1).val = (i 0).val % 8 * 128 + (i 1).val
    omega

/-- A window whose contents the run pins: its array ends at the contents the data names. -/
theorem arr_pinned {cfg₁ : Pipeline.Cfg sig Λ₀} {U' : Type} [Idealize.SL.RA.URA U'] {dat : (c : Dev nD) → Dat τ (Elt Ideal) Unit ℕ U' ℕ cfg₁ c}
    {fgt : Fin cfg₁.W → Bool} {V : (c : Dev nD) → (b : Ref sig .tc) → Buf (Elt Ideal) ((c.tc : Thread nD τ).loc b)}
    {r : PUnit × MemSt nD τ sig (Elt Ideal)} (h : Pipeline.RDat.FramePost cfg₁ (fun c => (dat c).toRForget fgt) V r) (c : Dev nD)
    (w : Fin cfg₁.W) (hw : fgt w = false) :
    r.2.mem ((cfg₁.spec w).arr.view.loc (c.tc : Thread nD τ)) = (dat c).arrAt w cfg₁.N :=
  ((dat c).toRForget_arrAt_iff hw _ _).mp ((h c).1 w)

/-- THE RESULT: the run ends with the new residual stream, laid out in short rows, in the first output's array. -/
theorem run_result (ρ : Dev nD → PrngReg) : θ_run defs (onTc (τ := τ) (main (F := Ideal))) ⟨m, fun _ => 0, ρ⟩
    (fun r => ∀ c : Dev nD, r.2.mem ((c.tc : Thread nD τ).loc main_v28_0) = resultOf m c) :=
  (θ_run defs _ _).mono (fun _ h c => (arr_pinned h.1 c (18 : Fin cfg0.W) rfl).trans (final m c)) (run_all m ρ)

end Cert.KernelIdeal.Hand

end
-- ==== Proof.Token.lean ====
module

public import proofs.«01_k».proof.Proof.Math
public import proofs.«01_k».proof.Proof.Gen.ReferenceIdeal.Read
public import Idealize.ShloMosaic.Lib.Pointwise

/-! # The reference, one token at a time

The stages of the reference read at batch `b` and position `t`: each is the mathematics of one token (`Cert.Math`) on that
token's rows. -/

@[expose] public section

set_option maxRecDepth 16384

noncomputable section

namespace Cert.ReferenceIdeal.Token

open Cert.ReferenceIdeal Cert.ReferenceIdeal.Gen Cert.ReferenceIdeal.Read
open Idealize.ShloMosaic Idealize.ShloMosaic.TcCoe Idealize.SL.Sem

/-- The smooth gate of the state-space branch. -/
theorem gelu_at (x3 : FVec Ideal S8x4096x256 .f32) (x4 : FVec Ideal S8x4096x256 .f32) (x5 : FVec Ideal S256 .f32) (b : Fin 8) (t : Fin 4096) (c : Fin 256) :
    val_main_v16 (F := Ideal) x3 x4 x5 (ix3 b t c)
      = Math.gelu (x3 (ix3 b t c) + x5 (ix1 c) * x4 (ix3 b t c)) := by
  pointwise [val_main_v0, val_main_v1, val_main_v2, val_main_v3, val_main_v4, val_main_v5, val_main_cst, val_main_v6, val_main_v7, val_main_v8, val_main_cst_0, val_main_v9, val_main_v10, val_main_v11, val_main_cst_1, val_main_v12, val_main_v13, val_main_cst_2, val_main_v14, val_main_v15, val_main_v16, Math.gelu]
  generalize x3 (ix3 b t c) + x5 (ix1 c) * x4 (ix3 b t c) = y
  rw [mul_assoc y y y]

/-- The gated branch. -/
theorem gated_at (x3 : FVec Ideal S8x4096x256 .f32) (x4 : FVec Ideal S8x4096x256 .f32) (x5 : FVec Ideal S256 .f32) (x6 : FVec Ideal S256x256 .f32) (x7 : FVec Ideal S256 .f32) (b : Fin 8) (t : Fin 4096) (c : Fin 256) :
    val_main_v27 (F := Ideal) x3 x4 x5 x6 x7 (ix3 b t c)
      = Math.gated (fun k => Math.gelu (x3 (ix3 b t k) + x5 (ix1 k) * x4 (ix3 b t k))) (fun j k => x6 (ix2 j k)) (fun k => x7 (ix1 k)) c := by
  pointwise [val_main_v17, val_main_v18, val_main_v19, val_main_v20, val_main_v21, val_main_v22, val_main_cst_3, val_main_v23, val_main_v24, val_main_cst_4, val_main_v25, val_main_v26, val_main_v27, gelu_at, Math.gated]
  rfl

/-- The residual stream after the output projection. -/
theorem stream_at (x0 : FVec Ideal S8x4096x1024 .f32) (x1 : FVec Ideal S8x4096x256 .f32) (x2 : FVec Ideal S8x4096x512 .f32) (x3 : FVec Ideal S8x4096x256 .f32) (x4 : FVec Ideal S8x4096x256 .f32) (x5 : FVec Ideal S256 .f32) (x6 : FVec Ideal S256x256 .f32) (x7 : FVec Ideal S256 .f32) (x8 : FVec Ideal S1024x1024 .f32) (b : Fin 8) (t : Fin 4096) (c : Fin 1024) :
    val_main_v30 (F := Ideal) x0 x1 x2 x3 x4 x5 x6 x7 x8 (ix3 b t c)
      = (Math.stream (fun c => x0 (ix3 b t c)) (fun k => x1 (ix3 b t k)) (fun k => x2 (ix3 b t k)) (fun k => x3 (ix3 b t k))
      (fun k => x4 (ix3 b t k)) (fun k => x5 (ix1 k)) (fun j k => x6 (ix2 j k)) (fun k => x7 (ix1 k)) (fun a b => x8 (ix2 a b))) c := by
  pointwise [val_main_v28, val_main_v29, val_main_v30, gated_at, Math.stream, Math.mixed]
  generalize Math.gated (fun k => Math.gelu (x3 (ix3 b t k) + x5 (ix1 k) * x4 (ix3 b t k))) (fun j k => x6 (ix2 j k))
                (fun k => x7 (ix1 k)) = s
  refine congrArg₂ (· + ·) rfl ?_
  rw [Fin.sum_univ_two_halves 256 768 rfl, Fin.sum_univ_two_halves 512 256 rfl, ← add_assoc]
  refine congrArg₂ (· + ·) (congrArg₂ (· + ·) (Finset.sum_congr rfl fun k _ => ?_) (Finset.sum_congr rfl fun k _ => ?_))
    (Finset.sum_congr rfl fun k _ => ?_)
  · rw [dif_pos k.isLt]
  · have h0 : ¬ 256 + k.val < 256 := by omega
    have h1 : 256 + k.val - 256 < 512 := by omega
    rw [dif_neg h0, dif_pos h1]
    exact congrArg₂ (· * ·) (congrArg x2 (congrArg (ix3 b t) (Fin.ext (by change 256 + k.val - 256 = k.val; omega)))) rfl
  · have h0 : ¬ 256 + (512 + k.val) < 256 := by omega
    have h1 : ¬ 256 + (512 + k.val) - 256 < 512 := by omega
    rw [dif_neg h0, dif_neg h1]
    exact congrArg₂ (· * ·) (congrArg s (Fin.ext (by change 256 + (512 + k.val) - 256 - 512 = k.val; omega)))
      (congrArg x8 (congrArg (fun a => ix2 a c) (Fin.ext (by change 256 + (512 + k.val) = 768 + k.val; omega))))

/-- The queries. -/
theorem query_at (x0 : FVec Ideal S8x4096x1024 .f32) (x1 : FVec Ideal S8x4096x256 .f32) (x2 : FVec Ideal S8x4096x512 .f32) (x3 : FVec Ideal S8x4096x256 .f32) (x4 : FVec Ideal S8x4096x256 .f32) (x5 : FVec Ideal S256 .f32) (x6 : FVec Ideal S256x256 .f32) (x7 : FVec Ideal S256 .f32) (x8 : FVec Ideal S1024x1024 .f32) (x9 : FVec Ideal S1024 .f32) (x12 : FVec Ideal S1024x1024 .f32) (b : Fin 8) (t : Fin 4096) (c : Fin 1024) :
    val_main_v44 (F := Ideal) x0 x1 x2 x3 x4 x5 x6 x7 x8 x9 x12 (ix3 b t c)
      = Math.proj (Math.normed (Math.stream (fun c => x0 (ix3 b t c)) (fun k => x1 (ix3 b t k)) (fun k => x2 (ix3 b t k)) (fun k => x3 (ix3 b t k))
      (fun k => x4 (ix3 b t k)) (fun k => x5 (ix1 k)) (fun j k => x6 (ix2 j k)) (fun k => x7 (ix1 k)) (fun a b => x8 (ix2 a b))) (fun c => x9 (ix1 c))) (fun a b => x12 (ix2 a b)) c := by
  pointwise [val_main_v31, val_main_cst_5, val_main_v32, val_main_v33, val_main_cst_6, val_main_v34, val_main_v35, val_main_cst_7, val_main_v36, val_main_v37, val_main_v38, val_main_v39, val_main_v40, val_main_v41, val_main_v42, val_main_v43, val_main_v44, stream_at, Math.proj, Math.normed]

/-- The scaled scores of a head. -/
theorem score_at (x0 : FVec Ideal S8x4096x1024 .f32) (x1 : FVec Ideal S8x4096x256 .f32) (x2 : FVec Ideal S8x4096x512 .f32) (x3 : FVec Ideal S8x4096x256 .f32) (x4 : FVec Ideal S8x4096x256 .f32) (x5 : FVec Ideal S256 .f32) (x6 : FVec Ideal S256x256 .f32) (x7 : FVec Ideal S256 .f32) (x8 : FVec Ideal S1024x1024 .f32) (x9 : FVec Ideal S1024 .f32) (x10 : FVec Ideal S8x256x1024 .f32) (x12 : FVec Ideal S1024x1024 .f32) (b : Fin 8) (h : Fin 4) (t : Fin 4096) (p : Fin 256) :
    val_main_v50 (F := Ideal) x0 x1 x2 x3 x4 x5 x6 x7 x8 x9 x10 x12 (ix4 b h t p)
      = Math.score (Math.proj (Math.normed (Math.stream (fun c => x0 (ix3 b t c)) (fun k => x1 (ix3 b t k)) (fun k => x2 (ix3 b t k)) (fun k => x3 (ix3 b t k))
      (fun k => x4 (ix3 b t k)) (fun k => x5 (ix1 k)) (fun j k => x6 (ix2 j k)) (fun k => x7 (ix1 k)) (fun a b => x8 (ix2 a b))) (fun c => x9 (ix1 c))) (fun a b => x12 (ix2 a b))) (fun p e => x10 (ix3 b p e)) h p := by
  pointwise [val_main_v48, val_main_cst_8, val_main_v49, val_main_v50, val_main_v45, val_main_v46, query_at, Math.score]
  simp only [Nat.mul_comm h.val 256]

end Cert.ReferenceIdeal.Token

end
-- ==== Proof.TokenOut.lean ====
module

public import proofs.«01_k».proof.Proof.Token
public import Idealize.ShloMosaic.Lib.Pointwise

/-! # The reference's softmax and output, one token at a time -/

@[expose] public section

set_option maxRecDepth 16384

noncomputable section

namespace Cert.ReferenceIdeal.Token

open Cert.ReferenceIdeal Cert.ReferenceIdeal.Gen Cert.ReferenceIdeal.Read
open Idealize.ShloMosaic Idealize.ShloMosaic.TcCoe Idealize.SL.Sem

/-- The host's maximum over the last axis of a batch of score rows. -/
theorem row_top (y : FVec Ideal S8x4x4096x256 .f32) (z : FVec Ideal S_ .f32) (b : Fin 8) (h : Fin 4) (t : Fin 4096) :
    Host.reduce FloatOps.maximumf y z reducesTo_S8x4x4096x256_S8x4x4096_d3 h_S_ (ix3 b h t)
      = Finset.univ.fold max (z (Shape.Idx.first h_S_)) fun p : Fin 256 => y (ix4 b h t p) := by
  simp only [pointwise]

/-- The largest score of a head, and of the scores and minus infinity. -/
theorem top_at (x0 : FVec Ideal S8x4096x1024 .f32) (x1 : FVec Ideal S8x4096x256 .f32) (x2 : FVec Ideal S8x4096x512 .f32) (x3 : FVec Ideal S8x4096x256 .f32) (x4 : FVec Ideal S8x4096x256 .f32) (x5 : FVec Ideal S256 .f32) (x6 : FVec Ideal S256x256 .f32) (x7 : FVec Ideal S256 .f32) (x8 : FVec Ideal S1024x1024 .f32) (x9 : FVec Ideal S1024 .f32) (x10 : FVec Ideal S8x256x1024 .f32) (x12 : FVec Ideal S1024x1024 .f32) (b : Fin 8) (h : Fin 4) (t : Fin 4096) :
    val_main_v53 (F := Ideal) x0 x1 x2 x3 x4 x5 x6 x7 x8 x9 x10 x12 (ix3 b h t) = max (Ideal.ofBits .f32 0xFF800000#32) (Math.top (fun p => val_main_v50 (F := Ideal) x0 x1 x2 x3 x4 x5 x6 x7 x8 x9 x10 x12 (ix4 b h t p))) := by
  rw [val_main_v53_apply, val_main_v52_apply]
  unfold val_main_v51
  generalize val_main_v50 (F := Ideal) x0 x1 x2 x3 x4 x5 x6 x7 x8 x9 x10 x12 = y
  rw [row_top]
  have h9 : val_main_cst_9 (F := Ideal) (Shape.Idx.first h_S_) = Ideal.ofBits .f32 0xFF800000#32 := rfl
  rw [h9]
  exact congrArg₂ max rfl rfl

/-- The exponentials of a head's scores. -/
theorem exp_at (x0 : FVec Ideal S8x4096x1024 .f32) (x1 : FVec Ideal S8x4096x256 .f32) (x2 : FVec Ideal S8x4096x512 .f32) (x3 : FVec Ideal S8x4096x256 .f32) (x4 : FVec Ideal S8x4096x256 .f32) (x5 : FVec Ideal S256 .f32) (x6 : FVec Ideal S256x256 .f32) (x7 : FVec Ideal S256 .f32) (x8 : FVec Ideal S1024x1024 .f32) (x9 : FVec Ideal S1024 .f32) (x10 : FVec Ideal S8x256x1024 .f32) (x12 : FVec Ideal S1024x1024 .f32) (b : Fin 8) (h : Fin 4) (t : Fin 4096) (p : Fin 256) :
    val_main_v57 (F := Ideal) x0 x1 x2 x3 x4 x5 x6 x7 x8 x9 x10 x12 (ix4 b h t p)
      = Ideal.exp (val_main_v50 (F := Ideal) x0 x1 x2 x3 x4 x5 x6 x7 x8 x9 x10 x12 (ix4 b h t p) - val_main_v53 (F := Ideal) x0 x1 x2 x3 x4 x5 x6 x7 x8 x9 x10 x12 (ix3 b h t)) := by
  unfold val_main_v57 val_main_v56 val_main_v55 val_main_v54
  generalize val_main_v50 (F := Ideal) x0 x1 x2 x3 x4 x5 x6 x7 x8 x9 x10 x12 = y
  generalize val_main_v53 (F := Ideal) x0 x1 x2 x3 x4 x5 x6 x7 x8 x9 x10 x12 = z
  pointwise

/-- The softmax weights of a head. -/
theorem weight_at (x0 : FVec Ideal S8x4096x1024 .f32) (x1 : FVec Ideal S8x4096x256 .f32) (x2 : FVec Ideal S8x4096x512 .f32) (x3 : FVec Ideal S8x4096x256 .f32) (x4 : FVec Ideal S8x4096x256 .f32) (x5 : FVec Ideal S256 .f32) (x6 : FVec Ideal S256x256 .f32) (x7 : FVec Ideal S256 .f32) (x8 : FVec Ideal S1024x1024 .f32) (x9 : FVec Ideal S1024 .f32) (x10 : FVec Ideal S8x256x1024 .f32) (x12 : FVec Ideal S1024x1024 .f32) (b : Fin 8) (h : Fin 4) (t : Fin 4096) (p : Fin 256) :
    val_main_v61 (F := Ideal) x0 x1 x2 x3 x4 x5 x6 x7 x8 x9 x10 x12 (ix4 b h t p)
      = Ideal.div (val_main_v57 (F := Ideal) x0 x1 x2 x3 x4 x5 x6 x7 x8 x9 x10 x12 (ix4 b h t p)) (∑ p, val_main_v57 (F := Ideal) x0 x1 x2 x3 x4 x5 x6 x7 x8 x9 x10 x12 (ix4 b h t p)) := by
  unfold val_main_v61 val_main_v60 val_main_v59 val_main_v58
  generalize val_main_v57 (F := Ideal) x0 x1 x2 x3 x4 x5 x6 x7 x8 x9 x10 x12 = y
  pointwise [val_main_cst_11]

/-- A head's weighted values. -/
theorem mean_at (x0 : FVec Ideal S8x4096x1024 .f32) (x1 : FVec Ideal S8x4096x256 .f32) (x2 : FVec Ideal S8x4096x512 .f32) (x3 : FVec Ideal S8x4096x256 .f32) (x4 : FVec Ideal S8x4096x256 .f32) (x5 : FVec Ideal S256 .f32) (x6 : FVec Ideal S256x256 .f32) (x7 : FVec Ideal S256 .f32) (x8 : FVec Ideal S1024x1024 .f32) (x9 : FVec Ideal S1024 .f32) (x10 : FVec Ideal S8x256x1024 .f32) (x11 : FVec Ideal S8x256x1024 .f32) (x12 : FVec Ideal S1024x1024 .f32) (b : Fin 8) (t : Fin 4096) (c : Fin 1024) :
    val_main_v64 (F := Ideal) x0 x1 x2 x3 x4 x5 x6 x7 x8 x9 x10 x11 x12 (ix3 b t c)
      = ∑ p : Fin 256, val_main_v61 (F := Ideal) x0 x1 x2 x3 x4 x5 x6 x7 x8 x9 x10 x12 (ix4 b ⟨c.val / 256, by omega⟩ t p) * x11 (ix3 b p c) := by
  unfold val_main_v64 val_main_v63 val_main_v62 val_main_v47
  generalize val_main_v61 (F := Ideal) x0 x1 x2 x3 x4 x5 x6 x7 x8 x9 x10 x12 = y
  pointwise
  exact Finset.sum_congr rfl fun p _ => mul_comm _ _

/-- Nothing is below the least extended real. -/
theorem max_least (s : Fin 256 → EReal) : max (Ideal.ofBits .f32 0xFF800000#32) (Math.top s) = Math.top s :=
  max_eq_right (by
    unfold Math.top
    exact Finset.le_fold_max _ |>.mpr (Or.inl le_rfl))

/-- The attended values. -/
theorem attend_at (x0 : FVec Ideal S8x4096x1024 .f32) (x1 : FVec Ideal S8x4096x256 .f32) (x2 : FVec Ideal S8x4096x512 .f32) (x3 : FVec Ideal S8x4096x256 .f32) (x4 : FVec Ideal S8x4096x256 .f32) (x5 : FVec Ideal S256 .f32) (x6 : FVec Ideal S256x256 .f32) (x7 : FVec Ideal S256 .f32) (x8 : FVec Ideal S1024x1024 .f32) (x9 : FVec Ideal S1024 .f32) (x10 : FVec Ideal S8x256x1024 .f32) (x11 : FVec Ideal S8x256x1024 .f32) (x12 : FVec Ideal S1024x1024 .f32) (b : Fin 8) (t : Fin 4096) (c : Fin 1024) :
    val_main_v64 (F := Ideal) x0 x1 x2 x3 x4 x5 x6 x7 x8 x9 x10 x11 x12 (ix3 b t c)
      = Math.attendEarly (Math.stream (fun c => x0 (ix3 b t c)) (fun k => x1 (ix3 b t k)) (fun k => x2 (ix3 b t k)) (fun k => x3 (ix3 b t k))
      (fun k => x4 (ix3 b t k)) (fun k => x5 (ix1 k)) (fun j k => x6 (ix2 j k)) (fun k => x7 (ix1 k)) (fun a b => x8 (ix2 a b))) (fun c => x9 (ix1 c)) (fun a b => x12 (ix2 a b)) (fun p e => x10 (ix3 b p e)) (fun p e => x11 (ix3 b p e)) c := by
  have hs := funext (score_at x0 x1 x2 x3 x4 x5 x6 x7 x8 x9 x10 x12 b ⟨c.val / 256, by omega⟩ t)
  rw [mean_at]
  simp only [weight_at, exp_at, top_at, max_least]
  generalize hy : (fun p => val_main_v50 (F := Ideal) x0 x1 x2 x3 x4 x5 x6 x7 x8 x9 x10 x12 (ix4 b ⟨c.val / 256, by omega⟩ t p)) = y at hs
  have hy' : ∀ p, val_main_v50 (F := Ideal) x0 x1 x2 x3 x4 x5 x6 x7 x8 x9 x10 x12 (ix4 b ⟨c.val / 256, by omega⟩ t p) = y p := congrFun hy
  simp only [hy']
  rw [hs]
  rfl

/-- The new residual stream. -/
theorem added_at (x0 : FVec Ideal S8x4096x1024 .f32) (x1 : FVec Ideal S8x4096x256 .f32) (x2 : FVec Ideal S8x4096x512 .f32) (x3 : FVec Ideal S8x4096x256 .f32) (x4 : FVec Ideal S8x4096x256 .f32) (x5 : FVec Ideal S256 .f32) (x6 : FVec Ideal S256x256 .f32) (x7 : FVec Ideal S256 .f32) (x8 : FVec Ideal S1024x1024 .f32) (x9 : FVec Ideal S1024 .f32) (x10 : FVec Ideal S8x256x1024 .f32) (x11 : FVec Ideal S8x256x1024 .f32) (x12 : FVec Ideal S1024x1024 .f32) (x13 : FVec Ideal S1024x1024 .f32) (b : Fin 8) (t : Fin 4096) (c : Fin 1024) :
    val_main_v66 (F := Ideal) x0 x1 x2 x3 x4 x5 x6 x7 x8 x9 x10 x11 x12 x13 (ix3 b t c)
      = Math.added (Math.stream (fun c => x0 (ix3 b t c)) (fun k => x1 (ix3 b t k)) (fun k => x2 (ix3 b t k)) (fun k => x3 (ix3 b t k))
      (fun k => x4 (ix3 b t k)) (fun k => x5 (ix1 k)) (fun j k => x6 (ix2 j k)) (fun k => x7 (ix1 k)) (fun a b => x8 (ix2 a b))) (Math.attendEarly (Math.stream (fun c => x0 (ix3 b t c)) (fun k => x1 (ix3 b t k)) (fun k => x2 (ix3 b t k)) (fun k => x3 (ix3 b t k))
      (fun k => x4 (ix3 b t k)) (fun k => x5 (ix1 k)) (fun j k => x6 (ix2 j k)) (fun k => x7 (ix1 k)) (fun a b => x8 (ix2 a b))) (fun c => x9 (ix1 c)) (fun a b => x12 (ix2 a b)) (fun p e => x10 (ix3 b p e)) (fun p e => x11 (ix3 b p e))) (fun e c => x13 (ix2 e c)) c := by
  have h : val_main_v66 (F := Ideal) x0 x1 x2 x3 x4 x5 x6 x7 x8 x9 x10 x11 x12 x13 (ix3 b t c)
      = Math.added (fun c => val_main_v30 (F := Ideal) x0 x1 x2 x3 x4 x5 x6 x7 x8 (ix3 b t c)) (fun e => val_main_v64 (F := Ideal) x0 x1 x2 x3 x4 x5 x6 x7 x8 x9 x10 x11 x12 (ix3 b t e)) (fun e c => x13 (ix2 e c)) c := by
    unfold val_main_v66 val_main_v65
    generalize val_main_v30 (F := Ideal) x0 x1 x2 x3 x4 x5 x6 x7 x8 = y
    generalize val_main_v64 (F := Ideal) x0 x1 x2 x3 x4 x5 x6 x7 x8 x9 x10 x11 x12 = z
    pointwise [Math.added]
  rw [h, funext (attend_at x0 x1 x2 x3 x4 x5 x6 x7 x8 x9 x10 x11 x12 b t), funext (stream_at x0 x1 x2 x3 x4 x5 x6 x7 x8 b t)]

/-- The result: short row `y`, lane `l` belongs to token `y / 8` and is that token's lane `(y % 8) * 128 + l`. -/
theorem result_at (x0 : FVec Ideal S8x4096x1024 .f32) (x1 : FVec Ideal S8x4096x256 .f32) (x2 : FVec Ideal S8x4096x512 .f32) (x3 : FVec Ideal S8x4096x256 .f32) (x4 : FVec Ideal S8x4096x256 .f32) (x5 : FVec Ideal S256 .f32) (x6 : FVec Ideal S256x256 .f32) (x7 : FVec Ideal S256 .f32) (x8 : FVec Ideal S1024x1024 .f32) (x9 : FVec Ideal S1024 .f32) (x10 : FVec Ideal S8x256x1024 .f32) (x11 : FVec Ideal S8x256x1024 .f32) (x12 : FVec Ideal S1024x1024 .f32) (x13 : FVec Ideal S1024x1024 .f32) (y : Fin 262144) (l : Fin 128) :
    val_main_v67 (F := Ideal) x0 x1 x2 x3 x4 x5 x6 x7 x8 x9 x10 x11 x12 x13 (ix2 y l)
      = val_main_v66 (F := Ideal) x0 x1 x2 x3 x4 x5 x6 x7 x8 x9 x10 x11 x12 x13 (ix3 ⟨y.val / 8 / 4096, by omega⟩ ⟨y.val / 8 % 4096, by omega⟩ ⟨y.val % 8 * 128 + l.val, by omega⟩) := by
  rw [val_main_v67_apply]
  refine congrArg _ (funext fun a => ?_)
  match a with
  | ⟨0, _⟩ => exact Fin.ext (by change (y.val * 128 + l.val) / 4194304 = y.val / 8 / 4096; omega)
  | ⟨1, _⟩ => exact Fin.ext (by change (y.val * 128 + l.val) / 1024 % 4096 = y.val / 8 % 4096; omega)
  | ⟨2, _⟩ => exact Fin.ext (by change (y.val * 128 + l.val) % 1024 = y.val % 8 * 128 + l.val; omega)

end Cert.ReferenceIdeal.Token

end
-- ==== Proof.Late.lean ====
module

public import proofs.«01_k».proof.Proof.Math
import Mathlib.Data.EReal.Operations
import Mathlib.Data.EReal.Inv

/-! # Dividing the softmax weights out late

Where every score of a row is a real number, the weights' sum is a positive real number, so it may be divided out of the
weighted mean at the end, whatever the values are. The scores are real numbers where the gain, the query matrix and the
keys are: a residual stream with an infinite lane has an infinite mean square, whose reciprocal root is zero. -/

@[expose] public section

noncomputable section

namespace Cert.Math

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {n : ℕ} {f : Fin n → EReal} (h : ∀ k, IsReal (f k)) : IsReal (∑ k, f k) :=
  Finset.sum_induction f IsReal (fun _ _ => IsReal.add) ⟨0, rfl⟩ fun k _ => h k

/-- A finite sum times a nonnegative real number. -/
theorem sum_mul_real {n : ℕ} (f : Fin n → EReal) (c : ℝ) (hc : 0 ≤ c) : (∑ k, f k) * (c : EReal) = ∑ k, f k * (c : EReal) := by
  have key : ∀ s : Finset (Fin n), (∑ k ∈ s, f k) * (c : EReal) = ∑ k ∈ s, f k * (c : EReal) := by
    intro s
    induction s using Finset.induction_on with
    | empty => simp
    | insert a s ha ih =>
      rw [Finset.sum_insert ha, Finset.sum_insert ha,
        EReal.right_distrib_of_nonneg_of_ne_top (EReal.coe_nonneg.mpr hc) (EReal.coe_ne_top c), ih]
  exact key Finset.univ

/-- A finite sum of positive real numbers over a nonempty range is a positive real number. -/
theorem sum_pos_real {n : ℕ} (w : Fin (n + 1) → ℝ) (hw : ∀ k, 0 < w k) : ∃ L : ℝ, 0 < L ∧ ∑ k, (w k : EReal) = (L : EReal) := by
  refine ⟨∑ k, w k, Finset.sum_pos (fun k _ => hw k) Finset.univ_nonempty, ?_⟩
  exact (map_sum (⟨⟨Real.toEReal, rfl⟩, EReal.coe_add⟩ : ℝ →+ EReal) w Finset.univ).symm

/-- The largest of a row of real scores is a real number. -/
theorem top_real {s : Fin 256 → EReal} (h : ∀ p, IsReal (s p)) : IsReal (top s) := by
  have hb : Ideal.ofBits .f32 0xFF800000#32 = ⊥ := by simp [Ideal.ofBits, Ideal.ieee]
  have ht : top s = Finset.univ.sup s := by unfold top; rw [hb]; rfl
  obtain ⟨p, _, hp⟩ := Finset.exists_mem_eq_sup Finset.univ ⟨0, Finset.mem_univ _⟩ s
  rw [ht, hp]; exact h p

/-- Over real scores, dividing the weights' sum out at the end is dividing every weight by it. -/
theorem late_eq_early {s : Fin 256 → EReal} (h : ∀ p, IsReal (s p)) (v : Fin 256 → EReal) : meanLate s v = meanEarly s v := by
  obtain ⟨T, hT⟩ := top_real h
  choose a ha using h
  have hw : ∀ p, Ideal.exp (s p - top s) = ((Real.exp (a p - T) : ℝ) : EReal) := fun p => by
    rw [ha p, hT, ← EReal.coe_sub, Ideal.exp_coe]
  obtain ⟨L, hL, hs⟩ := sum_pos_real (fun p : Fin 256 => Real.exp (a p - T)) fun p => Real.exp_pos _
  unfold meanLate meanEarly
  simp only [hw]
  rw [hs]
  simp only [Ideal.div_coe hL.ne']
  rw [sum_mul_real _ _ (by positivity)]
  exact Finset.sum_congr rfl fun p _ => mul_right_comm _ _ _

/-- A lane of an infinite row times the reciprocal root of the row's mean square is zero; of a real row, a real number. -/
theorem normed_real {x g : Fin 1024 → EReal} (hg : ∀ c, IsReal (g c)) (c : Fin 1024) : IsReal (normed x g c) := by
  have hd : Ideal.ofBits .f32 0x44800000#32 = ((1024 : ℝ) : EReal) := by
    simp [Ideal.ofBits, Ideal.ieee, -EReal.coe_mul]; norm_num
  have he : ∃ e : ℝ, 0 < e ∧ Ideal.ofBits .f32 0x358637BD#32 = (e : EReal) := by
    refine ⟨_, ?_, by simp [Ideal.ofBits, Ideal.ieee, -EReal.coe_mul]; rfl⟩
    norm_num
  obtain ⟨e, he0, he⟩ := he
  unfold normed
  rw [hd, he, Ideal.div_coe (by norm_num)]
  by_cases hx : ∀ k, IsReal (x k)
  · choose a ha using hx
    have hs : ∑ k, x k * x k = ((∑ k, a k * a k : ℝ) : EReal) := by
      rw [show (fun k => x k * x k) = fun k => ((a k * a k : ℝ) : EReal) from funext fun k => by rw [ha k, EReal.coe_mul]]
      exact (map_sum (⟨⟨Real.toEReal, rfl⟩, EReal.coe_add⟩ : ℝ →+ EReal) (fun k => a k * a k) Finset.univ).symm
    have h0 : 0 ≤ ∑ k, a k * a k := Finset.sum_nonneg fun k _ => mul_self_nonneg _
    rw [hs, ← EReal.coe_mul, ← EReal.coe_add]
    have hp : 0 < (∑ k, a k * a k) * (1 / 1024) + e := by positivity
    have hxc : IsReal (x c) := ⟨a c, ha c⟩
    refine (hxc.mul ?_).mul (hg c)
    generalize (∑ k, a k * a k) * (1 / 1024) + e = z at hp
    exact ⟨(Real.sqrt z)⁻¹, by
      change (if z < 0 then ⊥ else if z = 0 then ⊤ else (((Real.sqrt z)⁻¹ : ℝ) : EReal)) = _
      rw [if_neg (not_lt.mpr hp.le), if_neg hp.ne']⟩
  · have hsq : ∀ k, 0 ≤ x k * x k := fun k => by
      induction hk : x k with
      | bot => simp
      | top => simp
      | coe r => rw [← EReal.coe_mul]; exact EReal.coe_nonneg.mpr (mul_self_nonneg r)
    have ht : ∑ k, x k * x k = ⊤ := by
      obtain ⟨k, hk⟩ := not_forall.mp hx
      have hk' : x k * x k = ⊤ := by
        induction hk2 : x k with
        | bot => simp
        | top => simp
        | coe r => exact absurd ⟨r, hk2⟩ hk
      exact top_le_iff.mp (hk' ▸ Finset.single_le_sum (f := fun k => x k * x k) (fun k _ => hsq k) (Finset.mem_univ k))
    rw [ht, EReal.top_mul_coe_of_pos (by norm_num), EReal.top_add_coe]
    have hz : Ideal.rsqrt ⊤ = 0 := rfl
    rw [hz, mul_zero, zero_mul]
    exact ⟨0, rfl⟩

/-- The scaled scores are real numbers where the gain, the query matrix and the keys are. -/
theorem score_real {x g : Fin 1024 → EReal} {wq : Fin 1024 → Fin 1024 → EReal} {K : Fin 256 → Fin 1024 → EReal}
    (hg : ∀ c, IsReal (g c)) (hw : ∀ a b, IsReal (wq a b)) (hK : ∀ p e, IsReal (K p e)) (i : Fin 4) (p : Fin 256) :
    IsReal (score (proj (normed x g) wq) K i p) := by
  have hc : IsReal (Ideal.ofBits .f32 0x3D800000#32) := ⟨1 / 16, by
    simp [Ideal.ofBits, Ideal.ieee, -EReal.coe_mul]; norm_num⟩
  exact (IsReal.sum fun d => (IsReal.sum fun k => (normed_real hg k).mul (hw k _)).mul (hK p _)).mul hc

/-- The two spellings of the cross attention agree where the gain, the query matrix and the keys are real numbers. -/
theorem attend_eq (x : Fin 1024 → EReal) {g : Fin 1024 → EReal} {wq : Fin 1024 → Fin 1024 → EReal} {K : Fin 256 → Fin 1024 → EReal}
    (V : Fin 256 → Fin 1024 → EReal) (hg : ∀ c, IsReal (g c)) (hw : ∀ a b, IsReal (wq a b)) (hK : ∀ p e, IsReal (K p e)) :
    attendLate x g wq K V = attendEarly x g wq K V :=
  funext fun e => late_eq_early (score_real hg hw hK (head e)) _

end Cert.Math

end
-- ==== Proof.Finite.lean ====
module

public import proofs.«01_k».proof.Defs
public import proofs.«01_k».proof.Proof.Late
public import Idealize.ShloMosaic.Lib.Pointwise

/-! # What the precondition says: the gain, the query matrix and the keys are real numbers -/

@[expose] public section

noncomputable section

namespace Cert.Proof

open Idealize.ShloMosaic Idealize.ShloMosaic.TcCoe Idealize.SL.Sem Cert.Math

/-- The shape relations the precondition's function states. -/
theorem pre_facts : Cert.Pre_queries_and_keys_finite.Facts := ⟨by decide, by decide, by decide⟩

/-- An extended real whose absolute value is below infinity is a real number. -/
theorem real_of_abs_lt {x : EReal} (h : Ideal.cmp .olt (max x (-x)) (Ideal.ofBits .f32 0x7F800000#32) = 1#1) : IsReal x := by
  have hinf : Ideal.ofBits .f32 0x7F800000#32 = (⊤ : EReal) := by simp [Ideal.ofBits, Ideal.ieee]
  rw [hinf] at h
  induction x with
  | bot => simp [Ideal.cmp] at h
  | top => simp [Ideal.cmp] at h
  | coe r => exact ⟨r, rfl⟩

variable {m : (ℓ : Loc Cert.KernelIdeal.nD Cert.KernelIdeal.τ Cert.KernelIdeal.sig) → Buf (Elt Ideal) ℓ}

/-- The norm's gain is real. -/
theorem gain_real (h : Cert.Pre_KernelIdeal_queries_and_keys_finite (hPre_queries_and_keys_finite := pre_facts) m) (c : Dev Cert.KernelIdeal.nD)
    (i : Cert.KernelIdeal.S1024.Idx) : IsReal ((m ((c.tc : Thread Cert.KernelIdeal.nD Cert.KernelIdeal.τ).loc Cert.KernelIdeal.main_arg9) : FVec Ideal Cert.KernelIdeal.S1024 .f32) i) :=
  real_of_abs_lt (congrFun (h c).1 i)

/-- The query matrix is real. -/
theorem query_real (h : Cert.Pre_KernelIdeal_queries_and_keys_finite (hPre_queries_and_keys_finite := pre_facts) m) (c : Dev Cert.KernelIdeal.nD)
    (i : Cert.KernelIdeal.S1024x1024.Idx) : IsReal ((m ((c.tc : Thread Cert.KernelIdeal.nD Cert.KernelIdeal.τ).loc Cert.KernelIdeal.main_arg12) : FVec Ideal Cert.KernelIdeal.S1024x1024 .f32) i) :=
  real_of_abs_lt (congrFun (h c).2.1 i)

/-- The keys are real. -/
theorem keys_real (h : Cert.Pre_KernelIdeal_queries_and_keys_finite (hPre_queries_and_keys_finite := pre_facts) m) (c : Dev Cert.KernelIdeal.nD)
    (i : Cert.KernelIdeal.S8x256x1024.Idx) : IsReal ((m ((c.tc : Thread Cert.KernelIdeal.nD Cert.KernelIdeal.τ).loc Cert.KernelIdeal.main_arg10) : FVec Ideal Cert.KernelIdeal.S8x256x1024 .f32) i) :=
  real_of_abs_lt (congrFun (h c).2.2 i)

end Cert.Proof

end
-- ==== Proof.Value.lean ====
module

public import proofs.«01_k».proof.Proof.Result
public import proofs.«01_k».proof.Proof.TokenOut
public import proofs.«01_k».proof.Proof.Late
public import proofs.«01_k».proof.Proof.Finite

/-! # The kernel's result is the reference's -/

@[expose] public section

noncomputable section

namespace Cert.Proof

open Idealize.ShloMosaic Idealize.ShloMosaic.TcCoe Idealize.SL.Sem Cert.Math

/-- On memories that agree on the arguments, under the precondition, the two results are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_queries_and_keys_finite (hPre_queries_and_keys_finite := pre_facts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Value.res_main_v67 m' c = Cert.KernelIdeal.Hand.resultOf m c := by
  funext y
  obtain ⟨r, l, rfl⟩ : ∃ (r : Fin 262144) (l : Fin 128), y = ix2 r l :=
    ⟨y 0, y 1, funext fun a => by match a with | ⟨0, _⟩ => rfl | ⟨1, _⟩ => rfl⟩
  refine (congrFun (Cert.ReferenceIdeal.Read.val_main_v67_eq m' c) (ix2 r l)).trans
    ((Cert.ReferenceIdeal.Token.result_at _ _ _ _ _ _ _ _ _ _ _ _ _ _ r l).trans
      ((Cert.ReferenceIdeal.Token.added_at _ _ _ _ _ _ _ _ _ _ _ _ _ _ _ _ _).trans ?_))
  rw [h0, h1, h2, h3, h4, h5, h6, h7, h8, h9, h10, h11, h12, h13]
  unfold Cert.KernelIdeal.Hand.resultOf Cert.KernelIdeal.Hand.newAt
  rw [attend_eq _ _ (fun k => gain_real hpre c (ix1 k)) (fun i k => query_real hpre c (ix2 i k)) (fun p e => keys_real hpre c (ix3 _ p e))]
  rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Memory
public import proofs.«01_k».proof.Proof.Input
public import proofs.«01_k».proof.Proof.Run
public import proofs.«01_k».proof.Proof.Twin
public import proofs.«01_k».proof.Proof.Value
public import Idealize.ShloMosaic.Lib.Claim

/-! # The certificate

The main call's run is proved once, at any float values; both of its frames and its result come from it. The input projection
and the memory's projection have generated runs. -/

@[expose] public section

noncomputable section

namespace Cert.Proof

open Idealize.ShloMosaic Idealize.ShloMosaic.TcCoe Idealize.SL.Sem

/-- The kernel at the extended reals runs to its end, its arguments unchanged and every semaphore counter back at zero. -/
theorem frame_ideal : Cert.quiescent_KernelIdeal (hKernelIdeal := Cert.KernelIdeal.Gen.facts) := fun m ρ _ =>
  Cert.KernelIdeal.Hand.frame (F := Ideal) m ρ

/-- So does the reference, which declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the gain, the query matrix and the keys are finite, the kernel's and the reference's new residual streams are equal. -/
theorem algebraic : Cert.algebraic_KernelIdeal_ReferenceIdeal_pre_queries_and_keys_finite (hKernelIdeal := Cert.KernelIdeal.Gen.facts)
    (hReferenceIdeal := Cert.ReferenceIdeal.Gen.facts) (hPre_queries_and_keys_finite := pre_facts) := fun m g m' g' hpre hag =>
  ⟨fun c => Cert.KernelIdeal.Hand.resultOf m c,
    (θ_run Cert.KernelIdeal.defs _ _).mono (fun _ h c => ⟨h.1 c, h.2.1 c⟩)
      (θ_run_and (Cert.KernelIdeal.Hand.run_result m g) (Cert.KernelIdeal.Hand.frame (F := Ideal) m g)),
    (θ_run Cert.ReferenceIdeal.defs _ _).mono (fun _ h c => ⟨(h c).1.trans (by
        obtain ⟨h0, h1, h2, h3, h4, h5, h6, h7, h8, h9, h10, h11, h12, h13, -⟩ := hag c
        exact results_eq m m' c hpre h0 h1 h2 h3 h4 h5 h6 h7 h8 h9 h10 h11 h12 h13), (h c).2⟩)
      (Cert.ReferenceIdeal.Value.run m' g')⟩

/-- The joint input projection as written runs to its end. -/
theorem frame_kernel2 : Cert.quiescent_Kernel2 (hKernel2 := Cert.Kernel2.Gen.facts) := fun m ρ _ => Cert.Kernel2.Gen.frame m ρ

/-- So does it at the extended reals. -/
theorem frame_ideal2 : Cert.quiescent_Kernel2Ideal (hKernel2Ideal := Cert.Kernel2Ideal.Gen.facts) := fun m ρ _ => Cert.Kernel2Ideal.Gen.frame m ρ

/-- So does its reference. -/
theorem frame_reference2 : Cert.quiescent_Reference2Ideal (hReference2Ideal := Cert.Reference2Ideal.Gen.facts) := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The five branches' inputs are the reference's. -/
theorem algebraic2 : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Kernel2Ideal.Value.result3 m c, fun c => Cert.Kernel2Ideal.Value.result4 m c,
    fun c => Cert.Kernel2Ideal.Value.result5 m c, fun c => Cert.Kernel2Ideal.Value.result6 m c,
    fun c => Cert.Kernel2Ideal.Value.result7 m c, ?_, ?_⟩
  · run_from Cert.Kernel2Ideal.Gen.run_main m g
    · exact Cert.Kernel2Ideal.Value.final3 m c
    · exact Cert.Kernel2Ideal.Value.final4 m c
    · exact Cert.Kernel2Ideal.Value.final5 m c
    · exact Cert.Kernel2Ideal.Value.final6 m c
    · exact Cert.Kernel2Ideal.Value.final7 m c
  · refine (θ_run Cert.Reference2Ideal.defs _ _).mono (fun _ h c => ?_) (Cert.Reference2Ideal.Value.run (F := Ideal) m' g')
    obtain ⟨h0, h1, h2⟩ := hag c
    obtain ⟨e3, e4, e5, e6, e7, hargs⟩ := h c
    exact ⟨(e3.trans (Cert.Reference2Ideal.Read.val_main_v21_eq _ _ _)).trans (Cert.Kernel2Ideal.Value.ref3 m c h0 h1 h2),
      (e4.trans (Cert.Reference2Ideal.Read.val_main_v22_eq _ _ _)).trans (Cert.Kernel2Ideal.Value.ref4 m c h0 h1 h2),
      (e5.trans (Cert.Reference2Ideal.Read.val_main_v23_eq _ _ _)).trans (Cert.Kernel2Ideal.Value.ref5 m c h0 h1 h2),
      (e6.trans (Cert.Reference2Ideal.Read.val_main_v19_eq _ _ _)).trans (Cert.Kernel2Ideal.Value.ref6 m c h0 h1 h2),
      (e7.trans (Cert.Reference2Ideal.Read.val_main_v20_eq _ _ _)).trans (Cert.Kernel2Ideal.Value.ref7 m c h0 h1 h2), hargs⟩

/-- The memory's projection as written runs to its end. -/
theorem frame_kernel3 : Cert.quiescent_Kernel3 (hKernel3 := Cert.Kernel3.Gen.facts) := fun m ρ _ => Cert.Kernel3.Gen.frame m ρ

/-- So does it at the extended reals. -/
theorem frame_ideal3 : Cert.quiescent_Kernel3Ideal (hKernel3Ideal := Cert.Kernel3Ideal.Gen.facts) := fun m ρ _ => Cert.Kernel3Ideal.Gen.frame m ρ

/-- So does its reference. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The memory's keys and values are the reference's. -/
theorem algebraic3 : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Kernel3Ideal.Value.resultOf m c, ?_, ?_⟩
  · run_from Cert.Kernel3Ideal.Gen.run_main m g
    exact Cert.Kernel3Ideal.Value.final m c
  · refine (θ_run Cert.Reference3Ideal.defs _ _).mono (fun _ h c => ?_) (Cert.Reference3Ideal.Value.run (F := Ideal) m' g')
    obtain ⟨h0, h1, h2, h3⟩ := hag c
    exact ⟨(h c).1.trans (Cert.Kernel3Ideal.Value.results_eq m m' c h0 h1 h2 h3), (h c).2⟩

/-- Everything that is claimed: of the main call, of the input projection, and of the memory's keys and values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, pre_facts,
  frame_kernel, frame_ideal, fun m ρ _ => frame_ideal m ρ trivial, frame_reference, fun m ρ _ => frame_reference m ρ trivial,
  frame_kernel2, frame_ideal2, frame_reference2, frame_kernel3, frame_ideal3, frame_reference3,
  trivial, algebraic, trivial, algebraic2, trivial, algebraic3⟩

end Cert.Proof

end
